-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_sane [hPre_masks_sane : Cert.Pre_masks_sane.Facts] (m : (ℓ : Loc Cert.KernelIdeal.nD Cert.KernelIdeal.τ Cert.KernelIdeal.sig) → Buf (Elt Ideal) ℓ) : Prop :=
  ∀ c : Dev Cert.KernelIdeal.nD,
    (Cert.Pre_masks_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_sane [hPre_masks_sane : Cert.Pre_masks_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_masks_sane [hKernelIdeal : Cert.KernelIdeal.Facts] [hPre_masks_sane : Cert.Pre_masks_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_masks_sane [hReferenceIdeal : Cert.ReferenceIdeal.Facts] [hPre_masks_sane : Cert.Pre_masks_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_masks_sane [hKernelIdeal : Cert.KernelIdeal.Facts] [hReferenceIdeal : Cert.ReferenceIdeal.Facts] [hPre_masks_sane : Cert.Pre_masks_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v650) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_masks_sane : Cert.Pre_masks_sane.Facts),
    quiescent_Kernel (hKernel := hKernel)
    ∧ quiescent_KernelIdeal (hKernelIdeal := hKernelIdeal)
    ∧ quiescent_KernelIdeal_pre_masks_sane (hKernelIdeal := hKernelIdeal) (hPre_masks_sane := hPre_masks_sane)
    ∧ quiescent_ReferenceIdeal (hReferenceIdeal := hReferenceIdeal)
    ∧ quiescent_ReferenceIdeal_pre_masks_sane (hReferenceIdeal := hReferenceIdeal) (hPre_masks_sane := hPre_masks_sane)
    ∧ preserves_Kernel_KernelIdeal
    ∧ algebraic_KernelIdeal_ReferenceIdeal_pre_masks_sane (hKernelIdeal := hKernelIdeal) (hReferenceIdeal := hReferenceIdeal) (hPre_masks_sane := hPre_masks_sane)
-- ==== Pre_masks_sane.lean ====
abbrev S1x224x224x96 : Shape := ⟨4, ![1, 224, 224, 96]⟩
abbrev S1x224x224x1 : Shape := ⟨4, ![1, 224, 224, 1]⟩
abbrev S1x4x2x96 : Shape := ⟨4, ![1, 4, 2, 96]⟩
abbrev S3x3x96x96 : Shape := ⟨4, ![3, 3, 96, 96]⟩
abbrev S1x1x384x96 : Shape := ⟨4, ![1, 1, 384, 96]⟩
abbrev S96 : Shape := ⟨1, ![96]⟩
abbrev S_ : Shape := ⟨0, ![]⟩
abbrev S50176 : Shape := ⟨1, ![50176]⟩
abbrev S768 : Shape := ⟨1, ![768]⟩
abbrev S50944 : Shape := ⟨1, ![50944]⟩

class Facts : Prop where
  bcast_S_S1x224x224x1 : S_.BroadcastsInDim S1x224x224x1 (![] : Fin 0 → Fin S1x224x224x1.rank)
  shapeCasts_S1x224x224x1_S50176 : S1x224x224x1.ShapeCasts S50176
  bcast_S_S1x4x2x96 : S_.BroadcastsInDim S1x4x2x96 (![] : Fin 0 → Fin S1x4x2x96.rank)
  shapeCasts_S1x4x2x96_S768 : S1x4x2x96.ShapeCasts S768
  concatenates_S50176_S768_S50944_d0 : Shape.Concatenates [S50176, S768] S50944 0

variable [Facts]

def fn {F : FTy → Type} [FloatOps F] (main_arg0 : FVec F S1x224x224x96 .f32) (main_arg1 : FVec F S1x224x224x1 .f32) (main_arg2 : FVec F S1x4x2x96 .f32) (main_arg3 : FVec F S3x3x96x96 .f32) (main_arg4 : FVec F S3x3x96x96 .f32) (main_arg5 : FVec F S3x3x96x96 .f32) (main_arg6 : FVec F S3x3x96x96 .f32) (main_arg7 : FVec F S1x1x384x96 .f32) (main_arg8 : FVec F S96 .f32) : IVec S50944 1 :=
  let main_cst : FVec F S_ .f32 := constant S_ .f32 0x00000000#32
  let main_v0 : FVec F S1x224x224x1 .f32 := broadcastInDim S1x224x224x1 ![] bcast_S_S1x224x224x1 main_cst
  let main_v1 : IVec S1x224x224x1 1 := cmpf .oge main_arg1 main_v0
  let main_v2 : IVec S50176 1 := shapeCast S50176 main_v1 shapeCasts_S1x224x224x1_S50176
  let main_cst_0 : FVec F S_ .f32 := constant S_ .f32 0x7F800000#32
  let main_v3 : FVec F S1x4x2x96 .f32 := broadcastInDim S1x4x2x96 ![] bcast_S_S1x4x2x96 main_cst_0
  let main_v4 : IVec S1x4x2x96 1 := cmpf .olt main_arg2 main_v3
  let main_cst_1 : FVec F S_ .f32 := constant S_ .f32 0xFF800000#32
  let main_v5 : FVec F S1x4x2x96 .f32 := broadcastInDim S1x4x2x96 ![] bcast_S_S1x4x2x96 main_cst_1
  let main_v6 : IVec S1x4x2x96 1 := cmpf .ogt main_arg2 main_v5
  let main_v7 : IVec S1x4x2x96 1 := andi main_v4 main_v6
  let main_v8 : IVec S768 1 := shapeCast S768 main_v7 shapeCasts_S1x4x2x96_S768
  let main_v9 : IVec S50944 1 := (fun a b => concatenate S50944 0 [⟨S50176, a⟩, ⟨S768, b⟩] concatenates_S50176_S768_S50944_d0) main_v2 main_v8
  main_v9
-- ==== Kernel.lean ====
abbrev S1x224x224x96 : Shape := ⟨4, ![1, 224, 224, 96]⟩
abbrev S1x224x224x1 : Shape := ⟨4, ![1, 224, 224, 1]⟩
abbrev S1x4x2x96 : Shape := ⟨4, ![1, 4, 2, 96]⟩
abbrev S3x3x96x96 : Shape := ⟨4, ![3, 3, 96, 96]⟩
abbrev S1x1x384x96 : Shape := ⟨4, ![1, 1, 384, 96]⟩
abbrev S96 : Shape := ⟨1, ![96]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S8x96 : Shape := ⟨2, ![8, 96]⟩
abbrev S8x128 : Shape := ⟨2, ![8, 128]⟩
abbrev S128x8 : Shape := ⟨2, ![128, 8]⟩
abbrev S224x224x96 : Shape := ⟨3, ![224, 224, 96]⟩
abbrev S232x226x128 : Shape := ⟨3, ![232, 226, 128]⟩
abbrev S224x224 : Shape := ⟨2, ![224, 224]⟩
abbrev S232x224 : Shape := ⟨2, ![232, 224]⟩
abbrev S3x3x128x128 : Shape := ⟨4, ![3, 3, 128, 128]⟩
abbrev S4x96x96 : Shape := ⟨3, ![4, 96, 96]⟩
abbrev S4x128x128 : Shape := ⟨3, ![4, 128, 128]⟩
abbrev S512x128 : Shape := ⟨2, ![512, 128]⟩
abbrev S1x96 : Shape := ⟨2, ![1, 96]⟩
abbrev S1x128 : Shape := ⟨2, ![1, 128]⟩
abbrev S7x8x128 : Shape := ⟨3, ![7, 8, 128]⟩
abbrev S32x224x96 : Shape := ⟨3, ![32, 224, 96]⟩
abbrev S1x8x128 : Shape := ⟨3, ![1, 8, 128]⟩
abbrev S38x226x128 : Shape := ⟨3, ![38, 226, 128]⟩
abbrev S128x1 : Shape := ⟨2, ![128, 1]⟩
abbrev S38x1x128 : Shape := ⟨3, ![38, 1, 128]⟩
abbrev S38x2x128 : Shape := ⟨3, ![38, 2, 128]⟩
abbrev S40x224 : Shape := ⟨2, ![40, 224]⟩
abbrev S40x224x128 : Shape := ⟨3, ![40, 224, 128]⟩
abbrev S1x1x128x128 : Shape := ⟨4, ![1, 1, 128, 128]⟩
abbrev S128x128 : Shape := ⟨2, ![128, 128]⟩
abbrev S256x128 : Shape := ⟨2, ![256, 128]⟩
abbrev S38x224x128 : Shape := ⟨3, ![38, 224, 128]⟩
abbrev S38x224x256 : Shape := ⟨3, ![38, 224, 256]⟩
abbrev S8512x256 : Shape := ⟨2, ![8512, 256]⟩
abbrev S8512x128 : Shape := ⟨2, ![8512, 128]⟩
abbrev S38x224 : Shape := ⟨2, ![38, 224]⟩
abbrev S38x224x1 : Shape := ⟨3, ![38, 224, 1]⟩
abbrev S1x1x128 : Shape := ⟨3, ![1, 1, 128]⟩
abbrev S32x224x128 : Shape := ⟨3, ![32, 224, 128]⟩
abbrev S7168x128 : Shape := ⟨2, ![7168, 128]⟩
abbrev S128x256 : Shape := ⟨2, ![128, 256]⟩
abbrev S256x256 : Shape := ⟨2, ![256, 256]⟩
abbrev S36x224x128 : Shape := ⟨3, ![36, 224, 128]⟩
abbrev S36x224x256 : Shape := ⟨3, ![36, 224, 256]⟩
abbrev S8064x256 : Shape := ⟨2, ![8064, 256]⟩
abbrev S8064x128 : Shape := ⟨2, ![8064, 128]⟩
abbrev S36x224 : Shape := ⟨2, ![36, 224]⟩
abbrev S36x224x1 : Shape := ⟨3, ![36, 224, 1]⟩
abbrev S36x226x128 : Shape := ⟨3, ![36, 226, 128]⟩
abbrev S34x224x128 : Shape := ⟨3, ![34, 224, 128]⟩
abbrev S34x224x256 : Shape := ⟨3, ![34, 224, 256]⟩
abbrev S7616x256 : Shape := ⟨2, ![7616, 256]⟩
abbrev S7616x128 : Shape := ⟨2, ![7616, 128]⟩
abbrev S34x224 : Shape := ⟨2, ![34, 224]⟩
abbrev S34x224x1 : Shape := ⟨3, ![34, 224, 1]⟩
abbrev S34x226x128 : Shape := ⟨3, ![34, 226, 128]⟩
abbrev S32x224x256 : Shape := ⟨3, ![32, 224, 256]⟩
abbrev S7168x256 : Shape := ⟨2, ![7168, 256]⟩
abbrev S32x224 : Shape := ⟨2, ![32, 224]⟩
abbrev S32x224x1 : Shape := ⟨3, ![32, 224, 1]⟩
abbrev S7168x512 : Shape := ⟨2, ![7168, 512]⟩
abbrev S7168x96 : Shape := ⟨2, ![7168, 96]⟩
abbrev S1x8x96 : Shape := ⟨3, ![1, 8, 96]⟩

abbrev nBuf : Space → Nat
  | .hbm => 345
  | .vmem => 18
  | .smem => 0
  | _ => 0

abbrev hbmTy0_0 (i : Nat) : BufTy := match i % 128 with
  | 0 => ⟨S1x224x224x96, .f32⟩
  | 1 => ⟨S1x224x224x1, .f32⟩
  | 2 => ⟨S1x4x2x96, .f32⟩
  | 3 => ⟨S3x3x96x96, .f32⟩
  | 4 => ⟨S3x3x96x96, .f32⟩
  | 5 => ⟨S3x3x96x96, .f32⟩
  | 6 => ⟨S3x3x96x96, .f32⟩
  | 7 => ⟨S1x1x384x96, .f32⟩
  | 8 => ⟨S96, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S_, .f32⟩
  | 20 => ⟨S_, .f32⟩
  | 21 => ⟨S_, .f32⟩
  | 22 => ⟨S_, .f32⟩
  | 23 => ⟨S1x1x1x1, .f32⟩
  | 24 => ⟨S1x1x1x1, .f32⟩
  | 25 => ⟨S1, .i32⟩
  | 26 => ⟨S_, .i32⟩
  | 27 => ⟨S1, .i32⟩
  | 28 => ⟨S_, .i32⟩
  | 29 => ⟨S1x4x2x96, .i64⟩
  | 30 => ⟨S1x4x2x96, .i64⟩
  | 31 => ⟨S1x4x2x96, .i64⟩
  | 32 => ⟨S1x4x2x96, .i64⟩
  | 33 => ⟨S_, .i64⟩
  | 34 => ⟨S1x4x2x96, .i64⟩
  | 35 => ⟨S1x4x2x96, .i64⟩
  | 36 => ⟨S_, .i64⟩
  | 37 => ⟨S1x4x2x96, .i64⟩
  | 38 => ⟨S1x4x2x96, .i64⟩
  | 39 => ⟨S_, .i64⟩
  | 40 => ⟨S1x4x2x96, .i64⟩
  | 41 => ⟨S1x4x2x96, .i64⟩
  | 42 => ⟨S_, .i64⟩
  | 43 => ⟨S1x4x2x96, .i64⟩
  | 44 => ⟨S1x4x2x96, .i64⟩
  | 45 => ⟨S1x4x2x96, .i64⟩
  | 46 => ⟨S1x4x2x96, .i64⟩
  | 47 => ⟨S1x4x2x96, .i64⟩
  | 48 => ⟨S_, .i64⟩
  | 49 => ⟨S1x4x2x96, .i64⟩
  | 50 => ⟨S1x4x2x96, .i64⟩
  | 51 => ⟨S1x4x2x96, .i32⟩
  | 52 => ⟨S1x4x2x96, .i32⟩
  | 53 => ⟨S_, .i32⟩
  | 54 => ⟨S_, .i32⟩
  | 55 => ⟨S_, .i32⟩
  | 56 => ⟨S1x4x2x96, .i32⟩
  | 57 => ⟨S1x4x2x96, .i32⟩
  | 58 => ⟨S1x4x2x96, .i32⟩
  | 59 => ⟨S1x4x2x96, .i32⟩
  | 60 => ⟨S1x4x2x96, .i32⟩
  | 61 => ⟨S_, .i32⟩
  | 62 => ⟨S1x4x2x96, .i32⟩
  | 63 => ⟨S1x4x2x96, .i32⟩
  | 64 => ⟨S_, .i32⟩
  | 65 => ⟨S1x4x2x96, .i32⟩
  | 66 => ⟨S1x4x2x96, .i32⟩
  | 67 => ⟨S1x4x2x96, .i32⟩
  | 68 => ⟨S1x4x2x96, .i32⟩
  | 69 => ⟨S1x4x2x96, .i32⟩
  | 70 => ⟨S_, .i32⟩
  | 71 => ⟨S1x4x2x96, .i32⟩
  | 72 => ⟨S1x4x2x96, .i32⟩
  | 73 => ⟨S_, .i32⟩
  | 74 => ⟨S1x4x2x96, .i32⟩
  | 75 => ⟨S1x4x2x96, .i32⟩
  | 76 => ⟨S1x4x2x96, .i32⟩
  | 77 => ⟨S1x4x2x96, .i32⟩
  | 78 => ⟨S1x4x2x96, .i32⟩
  | 79 => ⟨S_, .i32⟩
  | 80 => ⟨S1x4x2x96, .i32⟩
  | 81 => ⟨S1x4x2x96, .i32⟩
  | 82 => ⟨S_, .i32⟩
  | 83 => ⟨S1x4x2x96, .i32⟩
  | 84 => ⟨S1x4x2x96, .i32⟩
  | 85 => ⟨S1x4x2x96, .i32⟩
  | 86 => ⟨S1x4x2x96, .i32⟩
  | 87 => ⟨S1x4x2x96, .i32⟩
  | 88 => ⟨S_, .i32⟩
  | 89 => ⟨S1x4x2x96, .i32⟩
  | 90 => ⟨S1x4x2x96, .i32⟩
  | 91 => ⟨S_, .i32⟩
  | 92 => ⟨S1x4x2x96, .i32⟩
  | 93 => ⟨S1x4x2x96, .i32⟩
  | 94 => ⟨S1x4x2x96, .i32⟩
  | 95 => ⟨S1x4x2x96, .i32⟩
  | 96 => ⟨S1x4x2x96, .i32⟩
  | 97 => ⟨S1x4x2x96, .i32⟩
  | 98 => ⟨S1x4x2x96, .i32⟩
  | 99 => ⟨S1x4x2x96, .i32⟩
  | 100 => ⟨S_, .i32⟩
  | 101 => ⟨S1x4x2x96, .i32⟩
  | 102 => ⟨S1x4x2x96, .i32⟩
  | 103 => ⟨S1x4x2x96, .i32⟩
  | 104 => ⟨S_, .i32⟩
  | 105 => ⟨S1x4x2x96, .i32⟩
  | 106 => ⟨S1x4x2x96, .i32⟩
  | 107 => ⟨S_, .i32⟩
  | 108 => ⟨S1x4x2x96, .i32⟩
  | 109 => ⟨S1x4x2x96, .i32⟩
  | 110 => ⟨S1x4x2x96, .i32⟩
  | 111 => ⟨S1x4x2x96, .i32⟩
  | 112 => ⟨S1x4x2x96, .i32⟩
  | 113 => ⟨S_, .i32⟩
  | 114 => ⟨S1x4x2x96, .i32⟩
  | 115 => ⟨S1x4x2x96, .i32⟩
  | 116 => ⟨S_, .i32⟩
  | 117 => ⟨S1x4x2x96, .i32⟩
  | 118 => ⟨S1x4x2x96, .i32⟩
  | 119 => ⟨S1x4x2x96, .i32⟩
  | 120 => ⟨S1x4x2x96, .i32⟩
  | 121 => ⟨S1x4x2x96, .i32⟩
  | 122 => ⟨S_, .i32⟩
  | 123 => ⟨S1x4x2x96, .i32⟩
  | 124 => ⟨S1x4x2x96, .i32⟩
  | 125 => ⟨S_, .i32⟩
  | 126 => ⟨S1x4x2x96, .i32⟩
  | 127 => ⟨S1x4x2x96, .i32⟩
  | _ => ⟨S1x224x224x96, .f32⟩

abbrev hbmTy0_1 (i : Nat) : BufTy := match i % 128 with
  | 0 => ⟨S1x4x2x96, .i32⟩
  | 1 => ⟨S1x4x2x96, .i32⟩
  | 2 => ⟨S1x4x2x96, .i32⟩
  | 3 => ⟨S_, .i32⟩
  | 4 => ⟨S1x4x2x96, .i32⟩
  | 5 => ⟨S1x4x2x96, .i32⟩
  | 6 => ⟨S_, .i32⟩
  | 7 => ⟨S1x4x2x96, .i32⟩
  | 8 => ⟨S1x4x2x96, .i32⟩
  | 9 => ⟨S1x4x2x96, .i32⟩
  | 10 => ⟨S1x4x2x96, .i32⟩
  | 11 => ⟨S1x4x2x96, .i32⟩
  | 12 => ⟨S1x4x2x96, .i32⟩
  | 13 => ⟨S1x4x2x96, .i32⟩
  | 14 => ⟨S1x4x2x96, .i32⟩
  | 15 => ⟨S_, .i32⟩
  | 16 => ⟨S1x4x2x96, .i32⟩
  | 17 => ⟨S1x4x2x96, .i32⟩
  | 18 => ⟨S1x4x2x96, .i32⟩
  | 19 => ⟨S_, .i32⟩
  | 20 => ⟨S1x4x2x96, .i32⟩
  | 21 => ⟨S1x4x2x96, .i32⟩
  | 22 => ⟨S_, .i32⟩
  | 23 => ⟨S1x4x2x96, .i32⟩
  | 24 => ⟨S1x4x2x96, .i32⟩
  | 25 => ⟨S1x4x2x96, .i32⟩
  | 26 => ⟨S1x4x2x96, .i32⟩
  | 27 => ⟨S1x4x2x96, .i32⟩
  | 28 => ⟨S_, .i32⟩
  | 29 => ⟨S1x4x2x96, .i32⟩
  | 30 => ⟨S1x4x2x96, .i32⟩
  | 31 => ⟨S_, .i32⟩
  | 32 => ⟨S1x4x2x96, .i32⟩
  | 33 => ⟨S1x4x2x96, .i32⟩
  | 34 => ⟨S1x4x2x96, .i32⟩
  | 35 => ⟨S1x4x2x96, .i32⟩
  | 36 => ⟨S1x4x2x96, .i32⟩
  | 37 => ⟨S_, .i32⟩
  | 38 => ⟨S1x4x2x96, .i32⟩
  | 39 => ⟨S1x4x2x96, .i32⟩
  | 40 => ⟨S_, .i32⟩
  | 41 => ⟨S1x4x2x96, .i32⟩
  | 42 => ⟨S1x4x2x96, .i32⟩
  | 43 => ⟨S1x4x2x96, .i32⟩
  | 44 => ⟨S1x4x2x96, .i32⟩
  | 45 => ⟨S1x4x2x96, .i32⟩
  | 46 => ⟨S_, .i32⟩
  | 47 => ⟨S1x4x2x96, .i32⟩
  | 48 => ⟨S1x4x2x96, .i32⟩
  | 49 => ⟨S_, .i32⟩
  | 50 => ⟨S1x4x2x96, .i32⟩
  | 51 => ⟨S1x4x2x96, .i32⟩
  | 52 => ⟨S1x4x2x96, .i32⟩
  | 53 => ⟨S1x4x2x96, .i32⟩
  | 54 => ⟨S1x4x2x96, .i32⟩
  | 55 => ⟨S1x4x2x96, .i32⟩
  | 56 => ⟨S1x4x2x96, .i32⟩
  | 57 => ⟨S1x4x2x96, .i32⟩
  | 58 => ⟨S_, .i32⟩
  | 59 => ⟨S1x4x2x96, .i32⟩
  | 60 => ⟨S1x4x2x96, .i32⟩
  | 61 => ⟨S1x4x2x96, .i32⟩
  | 62 => ⟨S_, .i32⟩
  | 63 => ⟨S1x4x2x96, .i32⟩
  | 64 => ⟨S1x4x2x96, .i32⟩
  | 65 => ⟨S_, .i32⟩
  | 66 => ⟨S1x4x2x96, .i32⟩
  | 67 => ⟨S1x4x2x96, .i32⟩
  | 68 => ⟨S1x4x2x96, .i32⟩
  | 69 => ⟨S1x4x2x96, .i32⟩
  | 70 => ⟨S1x4x2x96, .i32⟩
  | 71 => ⟨S_, .i32⟩
  | 72 => ⟨S1x4x2x96, .i32⟩
  | 73 => ⟨S1x4x2x96, .i32⟩
  | 74 => ⟨S_, .i32⟩
  | 75 => ⟨S1x4x2x96, .i32⟩
  | 76 => ⟨S1x4x2x96, .i32⟩
  | 77 => ⟨S1x4x2x96, .i32⟩
  | 78 => ⟨S1x4x2x96, .i32⟩
  | 79 => ⟨S1x4x2x96, .i32⟩
  | 80 => ⟨S_, .i32⟩
  | 81 => ⟨S1x4x2x96, .i32⟩
  | 82 => ⟨S1x4x2x96, .i32⟩
  | 83 => ⟨S_, .i32⟩
  | 84 => ⟨S1x4x2x96, .i32⟩
  | 85 => ⟨S1x4x2x96, .i32⟩
  | 86 => ⟨S1x4x2x96, .i32⟩
  | 87 => ⟨S1x4x2x96, .i32⟩
  | 88 => ⟨S1x4x2x96, .i32⟩
  | 89 => ⟨S_, .i32⟩
  | 90 => ⟨S1x4x2x96, .i32⟩
  | 91 => ⟨S1x4x2x96, .i32⟩
  | 92 => ⟨S_, .i32⟩
  | 93 => ⟨S1x4x2x96, .i32⟩
  | 94 => ⟨S1x4x2x96, .i32⟩
  | 95 => ⟨S1x4x2x96, .i32⟩
  | 96 => ⟨S1x4x2x96, .i32⟩
  | 97 => ⟨S1x4x2x96, .i32⟩
  | 98 => ⟨S1x4x2x96, .i32⟩
  | 99 => ⟨S1x4x2x96, .i32⟩
  | 100 => ⟨S1x4x2x96, .i32⟩
  | 101 => ⟨S_, .i32⟩
  | 102 => ⟨S1x4x2x96, .i32⟩
  | 103 => ⟨S1x4x2x96, .i32⟩
  | 104 => ⟨S1x4x2x96, .i32⟩
  | 105 => ⟨S_, .i32⟩
  | 106 => ⟨S1x4x2x96, .i32⟩
  | 107 => ⟨S1x4x2x96, .i32⟩
  | 108 => ⟨S_, .i32⟩
  | 109 => ⟨S1x4x2x96, .i32⟩
  | 110 => ⟨S1x4x2x96, .i32⟩
  | 111 => ⟨S1x4x2x96, .i32⟩
  | 112 => ⟨S1x4x2x96, .i32⟩
  | 113 => ⟨S1x4x2x96, .i32⟩
  | 114 => ⟨S_, .i32⟩
  | 115 => ⟨S1x4x2x96, .i32⟩
  | 116 => ⟨S1x4x2x96, .i32⟩
  | 117 => ⟨S_, .i32⟩
  | 118 => ⟨S1x4x2x96, .i32⟩
  | 119 => ⟨S1x4x2x96, .i32⟩
  | 120 => ⟨S1x4x2x96, .i32⟩
  | 121 => ⟨S1x4x2x96, .i32⟩
  | 122 => ⟨S1x4x2x96, .i32⟩
  | 123 => ⟨S_, .i32⟩
  | 124 => ⟨S1x4x2x96, .i32⟩
  | 125 => ⟨S1x4x2x96, .i32⟩
  | 126 => ⟨S_, .i32⟩
  | 127 => ⟨S1x4x2x96, .i32⟩
  | _ => ⟨S1x224x224x96, .f32⟩

abbrev hbmTy0_2 (i : Nat) : BufTy := match i % 128 with
  | 0 => ⟨S1x4x2x96, .i32⟩
  | 1 => ⟨S1x4x2x96, .i32⟩
  | 2 => ⟨S1x4x2x96, .i32⟩
  | 3 => ⟨S1x4x2x96, .i32⟩
  | 4 => ⟨S_, .i32⟩
  | 5 => ⟨S1x4x2x96, .i32⟩
  | 6 => ⟨S1x4x2x96, .i32⟩
  | 7 => ⟨S_, .i32⟩
  | 8 => ⟨S1x4x2x96, .i32⟩
  | 9 => ⟨S1x4x2x96, .i32⟩
  | 10 => ⟨S1x4x2x96, .i32⟩
  | 11 => ⟨S1x4x2x96, .i32⟩
  | 12 => ⟨S1x4x2x96, .i32⟩
  | 13 => ⟨S1x4x2x96, .i32⟩
  | 14 => ⟨S1x4x2x96, .i32⟩
  | 15 => ⟨S1x4x2x96, .i32⟩
  | 16 => ⟨S_, .i32⟩
  | 17 => ⟨S1x4x2x96, .i32⟩
  | 18 => ⟨S1x4x2x96, .i32⟩
  | 19 => ⟨S1x4x2x96, .i32⟩
  | 20 => ⟨S_, .i32⟩
  | 21 => ⟨S1x4x2x96, .i32⟩
  | 22 => ⟨S1x4x2x96, .i32⟩
  | 23 => ⟨S_, .i32⟩
  | 24 => ⟨S1x4x2x96, .i32⟩
  | 25 => ⟨S1x4x2x96, .i32⟩
  | 26 => ⟨S1x4x2x96, .f32⟩
  | 27 => ⟨S_, .f32⟩
  | 28 => ⟨S1x4x2x96, .f32⟩
  | 29 => ⟨S1x4x2x96, .f32⟩
  | 30 => ⟨S1x1x1x1, .f32⟩
  | 31 => ⟨S1x4x2x96, .f32⟩
  | 32 => ⟨S1x4x2x96, .f32⟩
  | 33 => ⟨S1x4x2x96, .f32⟩
  | 34 => ⟨S1x4x2x96, .f32⟩
  | 35 => ⟨S1x4x2x96, .f32⟩
  | 36 => ⟨S1x4x2x96, .f32⟩
  | 37 => ⟨S1x4x2x96, .f32⟩
  | 38 => ⟨S1x4x2x96, .f32⟩
  | 39 => ⟨S1x4x2x96, .f32⟩
  | 40 => ⟨S1x4x2x96, .f32⟩
  | 41 => ⟨S8x96, .f32⟩
  | 42 => ⟨S_, .i32⟩
  | 43 => ⟨S_, .f32⟩
  | 44 => ⟨S8x128, .f32⟩
  | 45 => ⟨S8x96, .f32⟩
  | 46 => ⟨S_, .i32⟩
  | 47 => ⟨S_, .f32⟩
  | 48 => ⟨S8x128, .f32⟩
  | 49 => ⟨S128x8, .f32⟩
  | 50 => ⟨S128x8, .f32⟩
  | 51 => ⟨S224x224x96, .f32⟩
  | 52 => ⟨S_, .i32⟩
  | 53 => ⟨S_, .f32⟩
  | 54 => ⟨S232x226x128, .f32⟩
  | 55 => ⟨S232x226x128, .bf16⟩
  | 56 => ⟨S224x224, .f32⟩
  | 57 => ⟨S_, .i32⟩
  | 58 => ⟨S_, .f32⟩
  | 59 => ⟨S232x224, .f32⟩
  | 60 => ⟨S_, .i32⟩
  | 61 => ⟨S_, .f32⟩
  | 62 => ⟨S3x3x128x128, .f32⟩
  | 63 => ⟨S3x3x128x128, .bf16⟩
  | 64 => ⟨S_, .i32⟩
  | 65 => ⟨S_, .f32⟩
  | 66 => ⟨S3x3x128x128, .f32⟩
  | 67 => ⟨S_, .i32⟩
  | 68 => ⟨S_, .f32⟩
  | 69 => ⟨S3x3x128x128, .f32⟩
  | 70 => ⟨S_, .i32⟩
  | 71 => ⟨S_, .f32⟩
  | 72 => ⟨S3x3x128x128, .f32⟩
  | 73 => ⟨S4x96x96, .f32⟩
  | 74 => ⟨S_, .i32⟩
  | 75 => ⟨S_, .f32⟩
  | 76 => ⟨S4x128x128, .f32⟩
  | 77 => ⟨S4x128x128, .bf16⟩
  | 78 => ⟨S512x128, .bf16⟩
  | 79 => ⟨S1x96, .f32⟩
  | 80 => ⟨S_, .i32⟩
  | 81 => ⟨S_, .f32⟩
  | 82 => ⟨S1x128, .f32⟩
  | 83 => ⟨S224x224x96, .f32⟩
  | 84 => ⟨S7x8x128, .f32⟩
  | 85 => ⟨S1x224x224x96, .f32⟩
  | 86 => ⟨S1x8x96, .f32⟩
  | 87 => ⟨S8x96, .f32⟩
  | 88 => ⟨S1x4x2x96, .f32⟩
  | _ => ⟨S1x224x224x96, .f32⟩

abbrev hbmTy (i : Nat) : BufTy := match i / 128 with
  | 0 => hbmTy0_0 i
  | 1 => hbmTy0_1 i
  | 2 => hbmTy0_2 i
  | _ => ⟨S1x224x224x96, .f32⟩

abbrev bufTy : (tb : Table) → Fin (tcTables nBuf tb) → BufTy
  | .hbm, ⟨i, _⟩ => hbmTy i
  | .local _ .vmem, ⟨0, _⟩ => ⟨S232x226x128, .bf16⟩
  | .local _ .vmem, ⟨1, _⟩ => ⟨S232x224, .f32⟩
  | .local _ .vmem, ⟨2, _⟩ => ⟨S8x128, .f32⟩
  | .local _ .vmem, ⟨3, _⟩ => ⟨S8x128, .f32⟩
  | .local _ .vmem, ⟨4, _⟩ => ⟨S128x8, .f32⟩
  | .local _ .vmem, ⟨5, _⟩ => ⟨S128x8, .f32⟩
  | .local _ .vmem, ⟨6, _⟩ => ⟨S3x3x128x128, .bf16⟩
  | .local _ .vmem, ⟨7, _⟩ => ⟨S3x3x128x128, .f32⟩
  | .local _ .vmem, ⟨8, _⟩ => ⟨S3x3x128x128, .f32⟩
  | .local _ .vmem, ⟨9, _⟩ => ⟨S3x3x128x128, .f32⟩
  | .local _ .vmem, ⟨10, _⟩ => ⟨S512x128, .bf16⟩
  | .local _ .vmem, ⟨11, _⟩ => ⟨S1x128, .f32⟩
  | .local _ .vmem, ⟨12, _⟩ => ⟨S32x224x96, .f32⟩
  | .local _ .vmem, ⟨13, _⟩ => ⟨S32x224x96, .f32⟩
  | .local _ .vmem, ⟨14, _⟩ => ⟨S1x8x128, .f32⟩
  | .local _ .vmem, ⟨15, _⟩ => ⟨S1x8x128, .f32⟩
  | .local _ .vmem, ⟨16, _⟩ => ⟨S38x226x128, .bf16⟩
  | .local _ .vmem, ⟨17, _⟩ => ⟨S38x226x128, .bf16⟩
  | _, _ => ⟨S1x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c : Ref sig .tc := ⟨.hbm, 33, rfl⟩
abbrev main_call0_v12 : Ref sig .tc := ⟨.hbm, 34, rfl⟩
abbrev main_call0_v13 : Ref sig .tc := ⟨.hbm, 35, rfl⟩
abbrev main_call0_c_0 : Ref sig .tc := ⟨.hbm, 36, rfl⟩
abbrev main_call0_v14 : Ref sig .tc := ⟨.hbm, 37, rfl⟩
abbrev main_call0_v15 : Ref sig .tc := ⟨.hbm, 38, rfl⟩
abbrev main_call0_c_1 : Ref sig .tc := ⟨.hbm, 39, rfl⟩
abbrev main_call0_v16 : Ref sig .tc := ⟨.hbm, 40, rfl⟩
abbrev main_call0_v17 : Ref sig .tc := ⟨.hbm, 41, rfl⟩
abbrev main_call0_c_2 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_c_3 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v27_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v27_1 : Ref sig .tc := ⟨.hbm, 274, rfl⟩
abbrev main_call0_v28 : Ref sig .tc := ⟨.hbm, 275, rfl⟩
abbrev main_call0_c_4 : Ref sig .tc := ⟨.hbm, 276, rfl⟩
abbrev main_call0_v29 : Ref sig .tc := ⟨.hbm, 277, rfl⟩
abbrev main_call0_v30 : Ref sig .tc := ⟨.hbm, 278, rfl⟩
abbrev main_call0_c_5 : Ref sig .tc := ⟨.hbm, 279, rfl⟩
abbrev main_call0_v31 : Ref sig .tc := ⟨.hbm, 280, rfl⟩
abbrev main_call0_v32 : Ref sig .tc := ⟨.hbm, 281, rfl⟩
abbrev main_call0_v33 : Ref sig .tc := ⟨.hbm, 282, rfl⟩
abbrev main_call0_cst : Ref sig .tc := ⟨.hbm, 283, rfl⟩
abbrev main_call0_v34 : Ref sig .tc := ⟨.hbm, 284, rfl⟩
abbrev main_call0_v35 : Ref sig .tc := ⟨.hbm, 285, rfl⟩
abbrev main_call0_v36 : Ref sig .tc := ⟨.hbm, 286, rfl⟩
abbrev main_call0_v37 : Ref sig .tc := ⟨.hbm, 287, rfl⟩
abbrev main_call0_v38 : Ref sig .tc := ⟨.hbm, 288, rfl⟩
abbrev main_call0_v39 : Ref sig .tc := ⟨.hbm, 289, rfl⟩
abbrev main_call0_v40 : Ref sig .tc := ⟨.hbm, 290, rfl⟩
abbrev main_call0_v41 : Ref sig .tc := ⟨.hbm, 291, rfl⟩
abbrev main_v7 : Ref sig .tc := ⟨.hbm, 292, rfl⟩
abbrev main_v8 : Ref sig .tc := ⟨.hbm, 293, rfl⟩
abbrev main_v9 : Ref sig .tc := ⟨.hbm, 294, rfl⟩
abbrev main_v10 : Ref sig .tc := ⟨.hbm, 295, rfl⟩
abbrev main_v11 : Ref sig .tc := ⟨.hbm, 296, rfl⟩
abbrev main_v12 : Ref sig .tc := ⟨.hbm, 297, rfl⟩
abbrev main_c_3 : Ref sig .tc := ⟨.hbm, 298, rfl⟩
abbrev main_call1_v0 : Ref sig .tc := ⟨.hbm, 299, rfl⟩
abbrev main_v13 : Ref sig .tc := ⟨.hbm, 300, rfl⟩
abbrev main_v14 : Ref sig .tc := ⟨.hbm, 301, rfl⟩
abbrev main_c_4 : Ref sig .tc := ⟨.hbm, 302, rfl⟩
abbrev main_call2_v0 : Ref sig .tc := ⟨.hbm, 303, rfl⟩
abbrev main_v15 : Ref sig .tc := ⟨.hbm, 304, rfl⟩
abbrev main_v16 : Ref sig .tc := ⟨.hbm, 305, rfl⟩
abbrev main_v17 : Ref sig .tc := ⟨.hbm, 306, rfl⟩
abbrev main_v18 : Ref sig .tc := ⟨.hbm, 307, rfl⟩
abbrev main_c_5 : Ref sig .tc := ⟨.hbm, 308, rfl⟩
abbrev main_call3_v0 : Ref sig .tc := ⟨.hbm, 309, rfl⟩
abbrev main_v19 : Ref sig .tc := ⟨.hbm, 310, rfl⟩
abbrev main_v20 : Ref sig .tc := ⟨.hbm, 311, rfl⟩
abbrev main_v21 : Ref sig .tc := ⟨.hbm, 312, rfl⟩
abbrev main_c_6 : Ref sig .tc := ⟨.hbm, 313, rfl⟩
abbrev main_call4_v0 : Ref sig .tc := ⟨.hbm, 314, rfl⟩
abbrev main_v22 : Ref sig .tc := ⟨.hbm, 315, rfl⟩
abbrev main_c_7 : Ref sig .tc := ⟨.hbm, 316, rfl⟩
abbrev main_call5_v0 : Ref sig .tc := ⟨.hbm, 317, rfl⟩
abbrev main_v23 : Ref sig .tc := ⟨.hbm, 318, rfl⟩
abbrev main_v24 : Ref sig .tc := ⟨.hbm, 319, rfl⟩
abbrev main_c_8 : Ref sig .tc := ⟨.hbm, 320, rfl⟩
abbrev main_call6_v0 : Ref sig .tc := ⟨.hbm, 321, rfl⟩
abbrev main_v25 : Ref sig .tc := ⟨.hbm, 322, rfl⟩
abbrev main_c_9 : Ref sig .tc := ⟨.hbm, 323, rfl⟩
abbrev main_call7_v0 : Ref sig .tc := ⟨.hbm, 324, rfl⟩
abbrev main_v26 : Ref sig .tc := ⟨.hbm, 325, rfl⟩
abbrev main_c_10 : Ref sig .tc := ⟨.hbm, 326, rfl⟩
abbrev main_call8_v0 : Ref sig .tc := ⟨.hbm, 327, rfl⟩
abbrev main_v27 : Ref sig .tc := ⟨.hbm, 328, rfl⟩
abbrev main_v28 : Ref sig .tc := ⟨.hbm, 329, rfl⟩
abbrev main_c_11 : Ref sig .tc := ⟨.hbm, 330, rfl⟩
abbrev main_call9_v0 : Ref sig .tc := ⟨.hbm, 331, rfl⟩
abbrev main_v29 : Ref sig .tc := ⟨.hbm, 332, rfl⟩
abbrev main_v30 : Ref sig .tc := ⟨.hbm, 333, rfl⟩
abbrev main_v31 : Ref sig .tc := ⟨.hbm, 334, rfl⟩
abbrev main_v32 : Ref sig .tc := ⟨.hbm, 335, rfl⟩
abbrev main_c_12 : Ref sig .tc := ⟨.hbm, 336, rfl⟩
abbrev main_call10_v0 : Ref sig .tc := ⟨.hbm, 337, rfl⟩
abbrev main_v33 : Ref sig .tc := ⟨.hbm, 338, rfl⟩
abbrev main_v34_0 : Ref sig .tc := ⟨.hbm, 339, rfl⟩
abbrev main_v34_1 : Ref sig .tc := ⟨.hbm, 340, rfl⟩
abbrev main_v35 : Ref sig .tc := ⟨.hbm, 341, rfl⟩
abbrev main_v36 : Ref sig .tc := ⟨.hbm, 342, rfl⟩
abbrev main_v37 : Ref sig .tc := ⟨.hbm, 343, rfl⟩
abbrev main_v38 : Ref sig .tc := ⟨.hbm, 344, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![7], ![false]⟩

def k0_off1 (i : grid0.Coords) : Fin 2 → Nat :=
  let arg0 : BitVec 32 := BitVec.ofNat 32 (i 0).val
  let c32_i32 : BitVec 32 := 32#32
  let v0 : BitVec 32 := Scalar.muli arg0 c32_i32
  let v102 : Index := Scalar.indexCast v0
  let c0_23 : Index := 0#32
  ![v102.toNat, 0]
def k0_off2 (i : grid0.Coords) : Fin 3 → Nat :=
  let arg0 : BitVec 32 := BitVec.ofNat 32 (i 0).val
  let c32_i32 : BitVec 32 := 32#32
  let v0 : BitVec 32 := Scalar.muli arg0 c32_i32
  let v105 : Index := Scalar.indexCast v0
  let c0_24 : Index := 0#32
  let c0_25 : Index := 0#32
  ![v105.toNat, 0, 0]
def k0_off3 (i : grid0.Coords) : Fin 3 → Nat :=
  let arg0 : BitVec 32 := BitVec.ofNat 32 (i 0).val
  let c32_i32 : BitVec 32 := 32#32
  let v0 : BitVec 32 := Scalar.muli arg0 c32_i32
  let v108 : Index := Scalar.indexCast v0
  let c1 : Index := 1#32
  let c0_26 : Index := 0#32
  ![v108.toNat, 1, 0]
def k0_off4 (i : grid0.Coords) : Fin 3 → Nat :=
  let arg0 : BitVec 32 := BitVec.ofNat 32 (i 0).val
  let c32_i32 : BitVec 32 := 32#32
  let v0 : BitVec 32 := Scalar.muli arg0 c32_i32
  let v111 : Index := Scalar.indexCast v0
  let c2 : Index := 2#32
  let c0_27 : Index := 0#32
  ![v111.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S232x226x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S232x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x3x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x224x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S1x224x224x96 : Shape := ⟨4, ![1, 224, 224, 96]⟩
abbrev S1x224x224x1 : Shape := ⟨4, ![1, 224, 224, 1]⟩
abbrev S1x4x2x96 : Shape := ⟨4, ![1, 4, 2, 96]⟩
abbrev S3x3x96x96 : Shape := ⟨4, ![3, 3, 96, 96]⟩
abbrev S1x1x384x96 : Shape := ⟨4, ![1, 1, 384, 96]⟩
abbrev S96 : Shape := ⟨1, ![96]⟩
abbrev S_ : Shape := ⟨0, ![]⟩
abbrev S768 : Shape := ⟨1, ![768]⟩
abbrev S1x4x96 : Shape := ⟨3, ![1, 4, 96]⟩
abbrev S1x4x1x96 : Shape := ⟨4, ![1, 4, 1, 96]⟩
abbrev S1x1x1x96 : Shape := ⟨4, ![1, 1, 1, 96]⟩
abbrev S1x96 : Shape := ⟨2, ![1, 96]⟩
abbrev S1x226x226x96 : Shape := ⟨4, ![1, 226, 226, 96]⟩
abbrev S1x1x96x96 : Shape := ⟨4, ![1, 1, 96, 96]⟩
abbrev S96x96 : Shape := ⟨2, ![96, 96]⟩
abbrev S1x224x224x384 : Shape := ⟨4, ![1, 224, 224, 384]⟩
abbrev S384x96 : Shape := ⟨2, ![384, 96]⟩

abbrev nBuf : Space → Nat
  | .hbm => 747
  | .vmem => 0
  | .smem => 0
  | _ => 0

abbrev hbmTy0_0 (i : Nat) : BufTy := match i % 128 with
  | 0 => ⟨S1x224x224x96, .f32⟩
  | 1 => ⟨S1x224x224x1, .f32⟩
  | 2 => ⟨S1x4x2x96, .f32⟩
  | 3 => ⟨S3x3x96x96, .f32⟩
  | 4 => ⟨S3x3x96x96, .f32⟩
  | 5 => ⟨S3x3x96x96, .f32⟩
  | 6 => ⟨S3x3x96x96, .f32⟩
  | 7 => ⟨S1x1x384x96, .f32⟩
  | 8 => ⟨S96, .f32⟩
  | 9 => ⟨S_, .i32⟩
  | 10 => ⟨S1x4x2x96, .i32⟩
  | 11 => ⟨S_, .i32⟩
  | 12 => ⟨S1x4x2x96, .i32⟩
  | 13 => ⟨S1x4x2x96, .i32⟩
  | 14 => ⟨S768, .i32⟩
  | 15 => ⟨S1x4x2x96, .i32⟩
  | 16 => ⟨S_, .i32⟩
  | 17 => ⟨S1x4x2x96, .i32⟩
  | 18 => ⟨S1x4x2x96, .i32⟩
  | 19 => ⟨S1x4x2x96, .i32⟩
  | 20 => ⟨S_, .i32⟩
  | 21 => ⟨S1x4x2x96, .i32⟩
  | 22 => ⟨S1x4x2x96, .i32⟩
  | 23 => ⟨S_, .i32⟩
  | 24 => ⟨S1x4x2x96, .i32⟩
  | 25 => ⟨S1x4x2x96, .i32⟩
  | 26 => ⟨S1x4x2x96, .i32⟩
  | 27 => ⟨S1x4x2x96, .i32⟩
  | 28 => ⟨S1x4x2x96, .i32⟩
  | 29 => ⟨S_, .i32⟩
  | 30 => ⟨S1x4x2x96, .i32⟩
  | 31 => ⟨S1x4x2x96, .i32⟩
  | 32 => ⟨S_, .i32⟩
  | 33 => ⟨S1x4x2x96, .i32⟩
  | 34 => ⟨S1x4x2x96, .i32⟩
  | 35 => ⟨S1x4x2x96, .i32⟩
  | 36 => ⟨S1x4x2x96, .i32⟩
  | 37 => ⟨S1x4x2x96, .i32⟩
  | 38 => ⟨S_, .i32⟩
  | 39 => ⟨S1x4x2x96, .i32⟩
  | 40 => ⟨S1x4x2x96, .i32⟩
  | 41 => ⟨S_, .i32⟩
  | 42 => ⟨S1x4x2x96, .i32⟩
  | 43 => ⟨S1x4x2x96, .i32⟩
  | 44 => ⟨S1x4x2x96, .i32⟩
  | 45 => ⟨S1x4x2x96, .i32⟩
  | 46 => ⟨S1x4x2x96, .i32⟩
  | 47 => ⟨S_, .i32⟩
  | 48 => ⟨S1x4x2x96, .i32⟩
  | 49 => ⟨S1x4x2x96, .i32⟩
  | 50 => ⟨S_, .i32⟩
  | 51 => ⟨S1x4x2x96, .i32⟩
  | 52 => ⟨S1x4x2x96, .i32⟩
  | 53 => ⟨S1x4x2x96, .i32⟩
  | 54 => ⟨S1x4x2x96, .i32⟩
  | 55 => ⟨S_, .i32⟩
  | 56 => ⟨S1x4x2x96, .i32⟩
  | 57 => ⟨S1x4x2x96, .i32⟩
  | 58 => ⟨S_, .i32⟩
  | 59 => ⟨S1x4x2x96, .i32⟩
  | 60 => ⟨S1x4x2x96, .i32⟩
  | 61 => ⟨S_, .i32⟩
  | 62 => ⟨S1x4x2x96, .i32⟩
  | 63 => ⟨S1x4x2x96, .i32⟩
  | 64 => ⟨S1x4x2x96, .i32⟩
  | 65 => ⟨S_, .i32⟩
  | 66 => ⟨S1x4x2x96, .i32⟩
  | 67 => ⟨S1x4x2x96, .i32⟩
  | 68 => ⟨S_, .i32⟩
  | 69 => ⟨S1x4x2x96, .i32⟩
  | 70 => ⟨S1x4x2x96, .i32⟩
  | 71 => ⟨S1x4x2x96, .i32⟩
  | 72 => ⟨S1x4x2x96, .i32⟩
  | 73 => ⟨S1x4x2x96, .i32⟩
  | 74 => ⟨S_, .i32⟩
  | 75 => ⟨S1x4x2x96, .i32⟩
  | 76 => ⟨S1x4x2x96, .i32⟩
  | 77 => ⟨S_, .i32⟩
  | 78 => ⟨S1x4x2x96, .i32⟩
  | 79 => ⟨S1x4x2x96, .i32⟩
  | 80 => ⟨S1x4x2x96, .i32⟩
  | 81 => ⟨S1x4x2x96, .i32⟩
  | 82 => ⟨S1x4x2x96, .i32⟩
  | 83 => ⟨S_, .i32⟩
  | 84 => ⟨S1x4x2x96, .i32⟩
  | 85 => ⟨S1x4x2x96, .i32⟩
  | 86 => ⟨S_, .i32⟩
  | 87 => ⟨S1x4x2x96, .i32⟩
  | 88 => ⟨S1x4x2x96, .i32⟩
  | 89 => ⟨S1x4x2x96, .i32⟩
  | 90 => ⟨S1x4x2x96, .i32⟩
  | 91 => ⟨S1x4x2x96, .i32⟩
  | 92 => ⟨S_, .i32⟩
  | 93 => ⟨S1x4x2x96, .i32⟩
  | 94 => ⟨S1x4x2x96, .i32⟩
  | 95 => ⟨S_, .i32⟩
  | 96 => ⟨S1x4x2x96, .i32⟩
  | 97 => ⟨S1x4x2x96, .i32⟩
  | 98 => ⟨S1x4x2x96, .i32⟩
  | 99 => ⟨S1x4x2x96, .i32⟩
  | 100 => ⟨S_, .i32⟩
  | 101 => ⟨S1x4x2x96, .i32⟩
  | 102 => ⟨S1x4x2x96, .i32⟩
  | 103 => ⟨S_, .i32⟩
  | 104 => ⟨S1x4x2x96, .i32⟩
  | 105 => ⟨S1x4x2x96, .i32⟩
  | 106 => ⟨S_, .i32⟩
  | 107 => ⟨S1x4x2x96, .i32⟩
  | 108 => ⟨S1x4x2x96, .i32⟩
  | 109 => ⟨S1x4x2x96, .i32⟩
  | 110 => ⟨S_, .i32⟩
  | 111 => ⟨S1x4x2x96, .i32⟩
  | 112 => ⟨S1x4x2x96, .i32⟩
  | 113 => ⟨S_, .i32⟩
  | 114 => ⟨S1x4x2x96, .i32⟩
  | 115 => ⟨S1x4x2x96, .i32⟩
  | 116 => ⟨S1x4x2x96, .i32⟩
  | 117 => ⟨S1x4x2x96, .i32⟩
  | 118 => ⟨S1x4x2x96, .i32⟩
  | 119 => ⟨S_, .i32⟩
  | 120 => ⟨S1x4x2x96, .i32⟩
  | 121 => ⟨S1x4x2x96, .i32⟩
  | 122 => ⟨S_, .i32⟩
  | 123 => ⟨S1x4x2x96, .i32⟩
  | 124 => ⟨S1x4x2x96, .i32⟩
  | 125 => ⟨S1x4x2x96, .i32⟩
  | 126 => ⟨S1x4x2x96, .i32⟩
  | 127 => ⟨S1x4x2x96, .i32⟩
  | _ => ⟨S1x224x224x96, .f32⟩

abbrev hbmTy0_1 (i : Nat) : BufTy := match i % 128 with
  | 0 => ⟨S_, .i32⟩
  | 1 => ⟨S1x4x2x96, .i32⟩
  | 2 => ⟨S1x4x2x96, .i32⟩
  | 3 => ⟨S_, .i32⟩
  | 4 => ⟨S1x4x2x96, .i32⟩
  | 5 => ⟨S1x4x2x96, .i32⟩
  | 6 => ⟨S1x4x2x96, .i32⟩
  | 7 => ⟨S1x4x2x96, .i32⟩
  | 8 => ⟨S1x4x2x96, .i32⟩
  | 9 => ⟨S_, .i32⟩
  | 10 => ⟨S1x4x2x96, .i32⟩
  | 11 => ⟨S1x4x2x96, .i32⟩
  | 12 => ⟨S_, .i32⟩
  | 13 => ⟨S1x4x2x96, .i32⟩
  | 14 => ⟨S1x4x2x96, .i32⟩
  | 15 => ⟨S1x4x2x96, .i32⟩
  | 16 => ⟨S1x4x2x96, .i32⟩
  | 17 => ⟨S_, .i32⟩
  | 18 => ⟨S1x4x2x96, .i32⟩
  | 19 => ⟨S1x4x2x96, .i32⟩
  | 20 => ⟨S_, .i32⟩
  | 21 => ⟨S1x4x2x96, .i32⟩
  | 22 => ⟨S1x4x2x96, .i32⟩
  | 23 => ⟨S_, .i32⟩
  | 24 => ⟨S1x4x2x96, .i32⟩
  | 25 => ⟨S1x4x2x96, .i32⟩
  | 26 => ⟨S1x4x2x96, .i32⟩
  | 27 => ⟨S_, .i32⟩
  | 28 => ⟨S1x4x2x96, .i32⟩
  | 29 => ⟨S1x4x2x96, .i32⟩
  | 30 => ⟨S_, .i32⟩
  | 31 => ⟨S1x4x2x96, .i32⟩
  | 32 => ⟨S1x4x2x96, .i32⟩
  | 33 => ⟨S1x4x2x96, .i32⟩
  | 34 => ⟨S1x4x2x96, .i32⟩
  | 35 => ⟨S1x4x2x96, .i32⟩
  | 36 => ⟨S_, .i32⟩
  | 37 => ⟨S1x4x2x96, .i32⟩
  | 38 => ⟨S1x4x2x96, .i32⟩
  | 39 => ⟨S_, .i32⟩
  | 40 => ⟨S1x4x2x96, .i32⟩
  | 41 => ⟨S1x4x2x96, .i32⟩
  | 42 => ⟨S1x4x2x96, .i32⟩
  | 43 => ⟨S1x4x2x96, .i32⟩
  | 44 => ⟨S1x4x2x96, .i32⟩
  | 45 => ⟨S_, .i32⟩
  | 46 => ⟨S1x4x2x96, .i32⟩
  | 47 => ⟨S1x4x2x96, .i32⟩
  | 48 => ⟨S_, .i32⟩
  | 49 => ⟨S1x4x2x96, .i32⟩
  | 50 => ⟨S1x4x2x96, .i32⟩
  | 51 => ⟨S1x4x2x96, .i32⟩
  | 52 => ⟨S1x4x2x96, .i32⟩
  | 53 => ⟨S1x4x2x96, .i32⟩
  | 54 => ⟨S_, .i32⟩
  | 55 => ⟨S1x4x2x96, .i32⟩
  | 56 => ⟨S1x4x2x96, .i32⟩
  | 57 => ⟨S_, .i32⟩
  | 58 => ⟨S1x4x2x96, .i32⟩
  | 59 => ⟨S1x4x2x96, .i32⟩
  | 60 => ⟨S1x4x2x96, .i32⟩
  | 61 => ⟨S1x4x2x96, .i32⟩
  | 62 => ⟨S_, .i32⟩
  | 63 => ⟨S1x4x2x96, .i32⟩
  | 64 => ⟨S1x4x2x96, .i32⟩
  | 65 => ⟨S_, .i32⟩
  | 66 => ⟨S1x4x2x96, .i32⟩
  | 67 => ⟨S1x4x2x96, .i32⟩
  | 68 => ⟨S_, .i32⟩
  | 69 => ⟨S1x4x2x96, .i32⟩
  | 70 => ⟨S1x4x2x96, .i32⟩
  | 71 => ⟨S1x4x2x96, .i32⟩
  | 72 => ⟨S_, .i32⟩
  | 73 => ⟨S1x4x2x96, .i32⟩
  | 74 => ⟨S1x4x2x96, .i32⟩
  | 75 => ⟨S_, .i32⟩
  | 76 => ⟨S1x4x2x96, .i32⟩
  | 77 => ⟨S1x4x2x96, .i32⟩
  | 78 => ⟨S1x4x2x96, .i32⟩
  | 79 => ⟨S1x4x2x96, .i32⟩
  | 80 => ⟨S1x4x2x96, .i32⟩
  | 81 => ⟨S_, .i32⟩
  | 82 => ⟨S1x4x2x96, .i32⟩
  | 83 => ⟨S1x4x2x96, .i32⟩
  | 84 => ⟨S_, .i32⟩
  | 85 => ⟨S1x4x2x96, .i32⟩
  | 86 => ⟨S1x4x2x96, .i32⟩
  | 87 => ⟨S1x4x2x96, .i32⟩
  | 88 => ⟨S1x4x2x96, .i32⟩
  | 89 => ⟨S1x4x2x96, .i32⟩
  | 90 => ⟨S_, .i32⟩
  | 91 => ⟨S1x4x2x96, .i32⟩
  | 92 => ⟨S1x4x2x96, .i32⟩
  | 93 => ⟨S_, .i32⟩
  | 94 => ⟨S1x4x2x96, .i32⟩
  | 95 => ⟨S1x4x2x96, .i32⟩
  | 96 => ⟨S1x4x2x96, .i32⟩
  | 97 => ⟨S1x4x2x96, .i32⟩
  | 98 => ⟨S1x4x2x96, .i32⟩
  | 99 => ⟨S_, .i32⟩
  | 100 => ⟨S1x4x2x96, .i32⟩
  | 101 => ⟨S1x4x2x96, .i32⟩
  | 102 => ⟨S_, .i32⟩
  | 103 => ⟨S1x4x2x96, .i32⟩
  | 104 => ⟨S1x4x2x96, .i32⟩
  | 105 => ⟨S1x4x2x96, .i32⟩
  | 106 => ⟨S1x4x2x96, .i32⟩
  | 107 => ⟨S_, .i32⟩
  | 108 => ⟨S1x4x2x96, .i32⟩
  | 109 => ⟨S1x4x2x96, .i32⟩
  | 110 => ⟨S_, .i32⟩
  | 111 => ⟨S1x4x2x96, .i32⟩
  | 112 => ⟨S1x4x2x96, .i32⟩
  | 113 => ⟨S_, .i32⟩
  | 114 => ⟨S1x4x2x96, .i32⟩
  | 115 => ⟨S1x4x2x96, .i32⟩
  | 116 => ⟨S1x4x2x96, .i32⟩
  | 117 => ⟨S_, .i32⟩
  | 118 => ⟨S1x4x2x96, .i32⟩
  | 119 => ⟨S1x4x2x96, .i32⟩
  | 120 => ⟨S_, .i32⟩
  | 121 => ⟨S1x4x2x96, .i32⟩
  | 122 => ⟨S1x4x2x96, .i32⟩
  | 123 => ⟨S1x4x2x96, .f32⟩
  | 124 => ⟨S_, .f32⟩
  | 125 => ⟨S1x4x2x96, .f32⟩
  | 126 => ⟨S1x4x2x96, .f32⟩
  | 127 => ⟨S_, .f32⟩
  | _ => ⟨S1x224x224x96, .f32⟩

abbrev hbmTy0_2 (i : Nat) : BufTy := match i % 128 with
  | 0 => ⟨S_, .f32⟩
  | 1 => ⟨S_, .f32⟩
  | 2 => ⟨S1x4x2x96, .f32⟩
  | 3 => ⟨S1x4x2x96, .f32⟩
  | 4 => ⟨S_, .f32⟩
  | 5 => ⟨S1x4x2x96, .f32⟩
  | 6 => ⟨S1x4x2x96, .f32⟩
  | 7 => ⟨S_, .f32⟩
  | 8 => ⟨S1x4x2x96, .f32⟩
  | 9 => ⟨S1x4x2x96, .f32⟩
  | 10 => ⟨S1x4x2x96, .f32⟩
  | 11 => ⟨S1x4x2x96, .f32⟩
  | 12 => ⟨S1x4x2x96, .f32⟩
  | 13 => ⟨S1x4x2x96, .f32⟩
  | 14 => ⟨S1x4x2x96, .f32⟩
  | 15 => ⟨S_, .f32⟩
  | 16 => ⟨S1x4x2x96, .f32⟩
  | 17 => ⟨S1x4x2x96, .f32⟩
  | 18 => ⟨S_, .f32⟩
  | 19 => ⟨S1x4x96, .f32⟩
  | 20 => ⟨S_, .f32⟩
  | 21 => ⟨S1x4x96, .f32⟩
  | 22 => ⟨S1x4x96, .f32⟩
  | 23 => ⟨S1x4x1x96, .f32⟩
  | 24 => ⟨S1x4x2x96, .f32⟩
  | 25 => ⟨S1x4x2x96, .f32⟩
  | 26 => ⟨S1x4x2x96, .f32⟩
  | 27 => ⟨S_, .f32⟩
  | 28 => ⟨S1x4x96, .f32⟩
  | 29 => ⟨S1x4x1x96, .f32⟩
  | 30 => ⟨S1x4x2x96, .f32⟩
  | 31 => ⟨S1x4x2x96, .f32⟩
  | 32 => ⟨S1x1x1x96, .f32⟩
  | 33 => ⟨S1x96, .f32⟩
  | 34 => ⟨S1x1x1x96, .f32⟩
  | 35 => ⟨S1x1x1x96, .f32⟩
  | 36 => ⟨S1x96, .f32⟩
  | 37 => ⟨S1x1x1x96, .f32⟩
  | 38 => ⟨S_, .i32⟩
  | 39 => ⟨S_, .f32⟩
  | 40 => ⟨S1x226x226x96, .f32⟩
  | 41 => ⟨S1x224x224x96, .f32⟩
  | 42 => ⟨S1x1x96x96, .f32⟩
  | 43 => ⟨S96x96, .f32⟩
  | 44 => ⟨S1x224x224x96, .f32⟩
  | 45 => ⟨S1x224x224x96, .f32⟩
  | 46 => ⟨S1x1x96x96, .f32⟩
  | 47 => ⟨S96x96, .f32⟩
  | 48 => ⟨S1x224x224x96, .f32⟩
  | 49 => ⟨S1x224x224x96, .f32⟩
  | 50 => ⟨S1x224x224x96, .f32⟩
  | 51 => ⟨S1x1x96x96, .f32⟩
  | 52 => ⟨S96x96, .f32⟩
  | 53 => ⟨S1x224x224x96, .f32⟩
  | 54 => ⟨S1x224x224x96, .f32⟩
  | 55 => ⟨S1x224x224x96, .f32⟩
  | 56 => ⟨S1x1x96x96, .f32⟩
  | 57 => ⟨S96x96, .f32⟩
  | 58 => ⟨S1x224x224x96, .f32⟩
  | 59 => ⟨S1x224x224x96, .f32⟩
  | 60 => ⟨S1x224x224x96, .f32⟩
  | 61 => ⟨S1x1x96x96, .f32⟩
  | 62 => ⟨S96x96, .f32⟩
  | 63 => ⟨S1x224x224x96, .f32⟩
  | 64 => ⟨S1x224x224x96, .f32⟩
  | 65 => ⟨S1x224x224x96, .f32⟩
  | 66 => ⟨S1x1x96x96, .f32⟩
  | 67 => ⟨S96x96, .f32⟩
  | 68 => ⟨S1x224x224x96, .f32⟩
  | 69 => ⟨S1x224x224x96, .f32⟩
  | 70 => ⟨S1x224x224x96, .f32⟩
  | 71 => ⟨S1x1x96x96, .f32⟩
  | 72 => ⟨S96x96, .f32⟩
  | 73 => ⟨S1x224x224x96, .f32⟩
  | 74 => ⟨S1x224x224x96, .f32⟩
  | 75 => ⟨S1x224x224x96, .f32⟩
  | 76 => ⟨S1x1x96x96, .f32⟩
  | 77 => ⟨S96x96, .f32⟩
  | 78 => ⟨S1x224x224x96, .f32⟩
  | 79 => ⟨S1x224x224x96, .f32⟩
  | 80 => ⟨S1x224x224x96, .f32⟩
  | 81 => ⟨S1x1x96x96, .f32⟩
  | 82 => ⟨S96x96, .f32⟩
  | 83 => ⟨S1x224x224x96, .f32⟩
  | 84 => ⟨S1x224x224x96, .f32⟩
  | 85 => ⟨S1x224x224x96, .f32⟩
  | 86 => ⟨S1x224x224x96, .f32⟩
  | 87 => ⟨S1x224x224x96, .f32⟩
  | 88 => ⟨S1x224x224x96, .f32⟩
  | 89 => ⟨S1x224x224x96, .f32⟩
  | 90 => ⟨S1x224x224x96, .f32⟩
  | 91 => ⟨S1x224x224x96, .f32⟩
  | 92 => ⟨S_, .f32⟩
  | 93 => ⟨S1x224x224x96, .f32⟩
  | 94 => ⟨S1x224x224x96, .f32⟩
  | 95 => ⟨S1x1x1x96, .f32⟩
  | 96 => ⟨S1x96, .f32⟩
  | 97 => ⟨S1x1x1x96, .f32⟩
  | 98 => ⟨S1x1x1x96, .f32⟩
  | 99 => ⟨S1x96, .f32⟩
  | 100 => ⟨S1x1x1x96, .f32⟩
  | 101 => ⟨S1x1x1x96, .f32⟩
  | 102 => ⟨S1x96, .f32⟩
  | 103 => ⟨S1x1x1x96, .f32⟩
  | 104 => ⟨S1x1x1x96, .f32⟩
  | 105 => ⟨S1x96, .f32⟩
  | 106 => ⟨S1x1x1x96, .f32⟩
  | 107 => ⟨S1x224x224x96, .f32⟩
  | 108 => ⟨S1x224x224x96, .f32⟩
  | 109 => ⟨S_, .i32⟩
  | 110 => ⟨S_, .f32⟩
  | 111 => ⟨S1x226x226x96, .f32⟩
  | 112 => ⟨S1x224x224x96, .f32⟩
  | 113 => ⟨S1x1x96x96, .f32⟩
  | 114 => ⟨S96x96, .f32⟩
  | 115 => ⟨S1x224x224x96, .f32⟩
  | 116 => ⟨S1x224x224x96, .f32⟩
  | 117 => ⟨S1x1x96x96, .f32⟩
  | 118 => ⟨S96x96, .f32⟩
  | 119 => ⟨S1x224x224x96, .f32⟩
  | 120 => ⟨S1x224x224x96, .f32⟩
  | 121 => ⟨S1x224x224x96, .f32⟩
  | 122 => ⟨S1x1x96x96, .f32⟩
  | 123 => ⟨S96x96, .f32⟩
  | 124 => ⟨S1x224x224x96, .f32⟩
  | 125 => ⟨S1x224x224x96, .f32⟩
  | 126 => ⟨S1x224x224x96, .f32⟩
  | 127 => ⟨S1x1x96x96, .f32⟩
  | _ => ⟨S1x224x224x96, .f32⟩

abbrev hbmTy0_3 (i : Nat) : BufTy := match i % 128 with
  | 0 => ⟨S96x96, .f32⟩
  | 1 => ⟨S1x224x224x96, .f32⟩
  | 2 => ⟨S1x224x224x96, .f32⟩
  | 3 => ⟨S1x224x224x96, .f32⟩
  | 4 => ⟨S1x1x96x96, .f32⟩
  | 5 => ⟨S96x96, .f32⟩
  | 6 => ⟨S1x224x224x96, .f32⟩
  | 7 => ⟨S1x224x224x96, .f32⟩
  | 8 => ⟨S1x224x224x96, .f32⟩
  | 9 => ⟨S1x1x96x96, .f32⟩
  | 10 => ⟨S96x96, .f32⟩
  | 11 => ⟨S1x224x224x96, .f32⟩
  | 12 => ⟨S1x224x224x96, .f32⟩
  | 13 => ⟨S1x224x224x96, .f32⟩
  | 14 => ⟨S1x1x96x96, .f32⟩
  | 15 => ⟨S96x96, .f32⟩
  | 16 => ⟨S1x224x224x96, .f32⟩
  | 17 => ⟨S1x224x224x96, .f32⟩
  | 18 => ⟨S1x224x224x96, .f32⟩
  | 19 => ⟨S1x1x96x96, .f32⟩
  | 20 => ⟨S96x96, .f32⟩
  | 21 => ⟨S1x224x224x96, .f32⟩
  | 22 => ⟨S1x224x224x96, .f32⟩
  | 23 => ⟨S1x224x224x96, .f32⟩
  | 24 => ⟨S1x1x96x96, .f32⟩
  | 25 => ⟨S96x96, .f32⟩
  | 26 => ⟨S1x224x224x96, .f32⟩
  | 27 => ⟨S1x224x224x96, .f32⟩
  | 28 => ⟨S1x224x224x96, .f32⟩
  | 29 => ⟨S1x224x224x96, .f32⟩
  | 30 => ⟨S_, .i32⟩
  | 31 => ⟨S_, .f32⟩
  | 32 => ⟨S1x226x226x96, .f32⟩
  | 33 => ⟨S1x224x224x96, .f32⟩
  | 34 => ⟨S1x1x96x96, .f32⟩
  | 35 => ⟨S96x96, .f32⟩
  | 36 => ⟨S1x224x224x96, .f32⟩
  | 37 => ⟨S1x224x224x96, .f32⟩
  | 38 => ⟨S1x1x96x96, .f32⟩
  | 39 => ⟨S96x96, .f32⟩
  | 40 => ⟨S1x224x224x96, .f32⟩
  | 41 => ⟨S1x224x224x96, .f32⟩
  | 42 => ⟨S1x224x224x96, .f32⟩
  | 43 => ⟨S1x1x96x96, .f32⟩
  | 44 => ⟨S96x96, .f32⟩
  | 45 => ⟨S1x224x224x96, .f32⟩
  | 46 => ⟨S1x224x224x96, .f32⟩
  | 47 => ⟨S1x224x224x96, .f32⟩
  | 48 => ⟨S1x1x96x96, .f32⟩
  | 49 => ⟨S96x96, .f32⟩
  | 50 => ⟨S1x224x224x96, .f32⟩
  | 51 => ⟨S1x224x224x96, .f32⟩
  | 52 => ⟨S1x224x224x96, .f32⟩
  | 53 => ⟨S1x1x96x96, .f32⟩
  | 54 => ⟨S96x96, .f32⟩
  | 55 => ⟨S1x224x224x96, .f32⟩
  | 56 => ⟨S1x224x224x96, .f32⟩
  | 57 => ⟨S1x224x224x96, .f32⟩
  | 58 => ⟨S1x1x96x96, .f32⟩
  | 59 => ⟨S96x96, .f32⟩
  | 60 => ⟨S1x224x224x96, .f32⟩
  | 61 => ⟨S1x224x224x96, .f32⟩
  | 62 => ⟨S1x224x224x96, .f32⟩
  | 63 => ⟨S1x1x96x96, .f32⟩
  | 64 => ⟨S96x96, .f32⟩
  | 65 => ⟨S1x224x224x96, .f32⟩
  | 66 => ⟨S1x224x224x96, .f32⟩
  | 67 => ⟨S1x224x224x96, .f32⟩
  | 68 => ⟨S1x1x96x96, .f32⟩
  | 69 => ⟨S96x96, .f32⟩
  | 70 => ⟨S1x224x224x96, .f32⟩
  | 71 => ⟨S1x224x224x96, .f32⟩
  | 72 => ⟨S1x224x224x96, .f32⟩
  | 73 => ⟨S1x1x96x96, .f32⟩
  | 74 => ⟨S96x96, .f32⟩
  | 75 => ⟨S1x224x224x96, .f32⟩
  | 76 => ⟨S1x224x224x96, .f32⟩
  | 77 => ⟨S1x224x224x96, .f32⟩
  | 78 => ⟨S1x224x224x96, .f32⟩
  | 79 => ⟨S1x224x224x96, .f32⟩
  | 80 => ⟨S1x224x224x96, .f32⟩
  | 81 => ⟨S1x224x224x96, .f32⟩
  | 82 => ⟨S1x224x224x96, .f32⟩
  | 83 => ⟨S1x224x224x96, .f32⟩
  | 84 => ⟨S1x224x224x96, .f32⟩
  | 85 => ⟨S1x224x224x96, .f32⟩
  | 86 => ⟨S1x224x224x96, .f32⟩
  | 87 => ⟨S1x224x224x96, .f32⟩
  | 88 => ⟨S1x224x224x96, .f32⟩
  | 89 => ⟨S1x224x224x96, .f32⟩
  | 90 => ⟨S1x224x224x96, .f32⟩
  | 91 => ⟨S1x224x224x96, .f32⟩
  | 92 => ⟨S1x224x224x96, .f32⟩
  | 93 => ⟨S1x224x224x96, .f32⟩
  | 94 => ⟨S_, .f32⟩
  | 95 => ⟨S1x224x224x96, .f32⟩
  | 96 => ⟨S1x224x224x96, .f32⟩
  | 97 => ⟨S1x1x1x96, .f32⟩
  | 98 => ⟨S1x96, .f32⟩
  | 99 => ⟨S1x1x1x96, .f32⟩
  | 100 => ⟨S1x1x1x96, .f32⟩
  | 101 => ⟨S1x96, .f32⟩
  | 102 => ⟨S1x1x1x96, .f32⟩
  | 103 => ⟨S1x1x1x96, .f32⟩
  | 104 => ⟨S1x96, .f32⟩
  | 105 => ⟨S1x1x1x96, .f32⟩
  | 106 => ⟨S1x1x1x96, .f32⟩
  | 107 => ⟨S1x96, .f32⟩
  | 108 => ⟨S1x1x1x96, .f32⟩
  | 109 => ⟨S1x224x224x96, .f32⟩
  | 110 => ⟨S1x224x224x96, .f32⟩
  | 111 => ⟨S_, .i32⟩
  | 112 => ⟨S_, .f32⟩
  | 113 => ⟨S1x226x226x96, .f32⟩
  | 114 => ⟨S1x224x224x96, .f32⟩
  | 115 => ⟨S1x1x96x96, .f32⟩
  | 116 => ⟨S96x96, .f32⟩
  | 117 => ⟨S1x224x224x96, .f32⟩
  | 118 => ⟨S1x224x224x96, .f32⟩
  | 119 => ⟨S1x1x96x96, .f32⟩
  | 120 => ⟨S96x96, .f32⟩
  | 121 => ⟨S1x224x224x96, .f32⟩
  | 122 => ⟨S1x224x224x96, .f32⟩
  | 123 => ⟨S1x224x224x96, .f32⟩
  | 124 => ⟨S1x1x96x96, .f32⟩
  | 125 => ⟨S96x96, .f32⟩
  | 126 => ⟨S1x224x224x96, .f32⟩
  | 127 => ⟨S1x224x224x96, .f32⟩
  | _ => ⟨S1x224x224x96, .f32⟩

abbrev hbmTy0_4 (i : Nat) : BufTy := match i % 128 with
  | 0 => ⟨S1x224x224x96, .f32⟩
  | 1 => ⟨S1x1x96x96, .f32⟩
  | 2 => ⟨S96x96, .f32⟩
  | 3 => ⟨S1x224x224x96, .f32⟩
  | 4 => ⟨S1x224x224x96, .f32⟩
  | 5 => ⟨S1x224x224x96, .f32⟩
  | 6 => ⟨S1x1x96x96, .f32⟩
  | 7 => ⟨S96x96, .f32⟩
  | 8 => ⟨S1x224x224x96, .f32⟩
  | 9 => ⟨S1x224x224x96, .f32⟩
  | 10 => ⟨S1x224x224x96, .f32⟩
  | 11 => ⟨S1x1x96x96, .f32⟩
  | 12 => ⟨S96x96, .f32⟩
  | 13 => ⟨S1x224x224x96, .f32⟩
  | 14 => ⟨S1x224x224x96, .f32⟩
  | 15 => ⟨S1x224x224x96, .f32⟩
  | 16 => ⟨S1x1x96x96, .f32⟩
  | 17 => ⟨S96x96, .f32⟩
  | 18 => ⟨S1x224x224x96, .f32⟩
  | 19 => ⟨S1x224x224x96, .f32⟩
  | 20 => ⟨S1x224x224x96, .f32⟩
  | 21 => ⟨S1x1x96x96, .f32⟩
  | 22 => ⟨S96x96, .f32⟩
  | 23 => ⟨S1x224x224x96, .f32⟩
  | 24 => ⟨S1x224x224x96, .f32⟩
  | 25 => ⟨S1x224x224x96, .f32⟩
  | 26 => ⟨S1x1x96x96, .f32⟩
  | 27 => ⟨S96x96, .f32⟩
  | 28 => ⟨S1x224x224x96, .f32⟩
  | 29 => ⟨S1x224x224x96, .f32⟩
  | 30 => ⟨S1x224x224x96, .f32⟩
  | 31 => ⟨S1x224x224x96, .f32⟩
  | 32 => ⟨S_, .i32⟩
  | 33 => ⟨S_, .f32⟩
  | 34 => ⟨S1x226x226x96, .f32⟩
  | 35 => ⟨S1x224x224x96, .f32⟩
  | 36 => ⟨S1x1x96x96, .f32⟩
  | 37 => ⟨S96x96, .f32⟩
  | 38 => ⟨S1x224x224x96, .f32⟩
  | 39 => ⟨S1x224x224x96, .f32⟩
  | 40 => ⟨S1x1x96x96, .f32⟩
  | 41 => ⟨S96x96, .f32⟩
  | 42 => ⟨S1x224x224x96, .f32⟩
  | 43 => ⟨S1x224x224x96, .f32⟩
  | 44 => ⟨S1x224x224x96, .f32⟩
  | 45 => ⟨S1x1x96x96, .f32⟩
  | 46 => ⟨S96x96, .f32⟩
  | 47 => ⟨S1x224x224x96, .f32⟩
  | 48 => ⟨S1x224x224x96, .f32⟩
  | 49 => ⟨S1x224x224x96, .f32⟩
  | 50 => ⟨S1x1x96x96, .f32⟩
  | 51 => ⟨S96x96, .f32⟩
  | 52 => ⟨S1x224x224x96, .f32⟩
  | 53 => ⟨S1x224x224x96, .f32⟩
  | 54 => ⟨S1x224x224x96, .f32⟩
  | 55 => ⟨S1x1x96x96, .f32⟩
  | 56 => ⟨S96x96, .f32⟩
  | 57 => ⟨S1x224x224x96, .f32⟩
  | 58 => ⟨S1x224x224x96, .f32⟩
  | 59 => ⟨S1x224x224x96, .f32⟩
  | 60 => ⟨S1x1x96x96, .f32⟩
  | 61 => ⟨S96x96, .f32⟩
  | 62 => ⟨S1x224x224x96, .f32⟩
  | 63 => ⟨S1x224x224x96, .f32⟩
  | 64 => ⟨S1x224x224x96, .f32⟩
  | 65 => ⟨S1x1x96x96, .f32⟩
  | 66 => ⟨S96x96, .f32⟩
  | 67 => ⟨S1x224x224x96, .f32⟩
  | 68 => ⟨S1x224x224x96, .f32⟩
  | 69 => ⟨S1x224x224x96, .f32⟩
  | 70 => ⟨S1x1x96x96, .f32⟩
  | 71 => ⟨S96x96, .f32⟩
  | 72 => ⟨S1x224x224x96, .f32⟩
  | 73 => ⟨S1x224x224x96, .f32⟩
  | 74 => ⟨S1x224x224x96, .f32⟩
  | 75 => ⟨S1x1x96x96, .f32⟩
  | 76 => ⟨S96x96, .f32⟩
  | 77 => ⟨S1x224x224x96, .f32⟩
  | 78 => ⟨S1x224x224x96, .f32⟩
  | 79 => ⟨S1x224x224x96, .f32⟩
  | 80 => ⟨S1x224x224x96, .f32⟩
  | 81 => ⟨S1x224x224x96, .f32⟩
  | 82 => ⟨S1x224x224x96, .f32⟩
  | 83 => ⟨S1x224x224x96, .f32⟩
  | 84 => ⟨S1x224x224x96, .f32⟩
  | 85 => ⟨S1x224x224x96, .f32⟩
  | 86 => ⟨S1x224x224x96, .f32⟩
  | 87 => ⟨S1x224x224x96, .f32⟩
  | 88 => ⟨S1x224x224x96, .f32⟩
  | 89 => ⟨S1x224x224x96, .f32⟩
  | 90 => ⟨S1x224x224x96, .f32⟩
  | 91 => ⟨S1x224x224x96, .f32⟩
  | 92 => ⟨S1x224x224x96, .f32⟩
  | 93 => ⟨S1x224x224x96, .f32⟩
  | 94 => ⟨S1x224x224x96, .f32⟩
  | 95 => ⟨S1x224x224x96, .f32⟩
  | 96 => ⟨S_, .f32⟩
  | 97 => ⟨S1x224x224x96, .f32⟩
  | 98 => ⟨S1x224x224x96, .f32⟩
  | 99 => ⟨S1x1x1x96, .f32⟩
  | 100 => ⟨S1x96, .f32⟩
  | 101 => ⟨S1x1x1x96, .f32⟩
  | 102 => ⟨S1x1x1x96, .f32⟩
  | 103 => ⟨S1x96, .f32⟩
  | 104 => ⟨S1x1x1x96, .f32⟩
  | 105 => ⟨S1x1x1x96, .f32⟩
  | 106 => ⟨S1x96, .f32⟩
  | 107 => ⟨S1x1x1x96, .f32⟩
  | 108 => ⟨S1x1x1x96, .f32⟩
  | 109 => ⟨S1x96, .f32⟩
  | 110 => ⟨S1x1x1x96, .f32⟩
  | 111 => ⟨S1x224x224x96, .f32⟩
  | 112 => ⟨S1x224x224x96, .f32⟩
  | 113 => ⟨S_, .i32⟩
  | 114 => ⟨S_, .f32⟩
  | 115 => ⟨S1x226x226x96, .f32⟩
  | 116 => ⟨S1x224x224x96, .f32⟩
  | 117 => ⟨S1x1x96x96, .f32⟩
  | 118 => ⟨S96x96, .f32⟩
  | 119 => ⟨S1x224x224x96, .f32⟩
  | 120 => ⟨S1x224x224x96, .f32⟩
  | 121 => ⟨S1x1x96x96, .f32⟩
  | 122 => ⟨S96x96, .f32⟩
  | 123 => ⟨S1x224x224x96, .f32⟩
  | 124 => ⟨S1x224x224x96, .f32⟩
  | 125 => ⟨S1x224x224x96, .f32⟩
  | 126 => ⟨S1x1x96x96, .f32⟩
  | 127 => ⟨S96x96, .f32⟩
  | _ => ⟨S1x224x224x96, .f32⟩

abbrev hbmTy0_5 (i : Nat) : BufTy := match i % 128 with
  | 0 => ⟨S1x224x224x96, .f32⟩
  | 1 => ⟨S1x224x224x96, .f32⟩
  | 2 => ⟨S1x224x224x96, .f32⟩
  | 3 => ⟨S1x1x96x96, .f32⟩
  | 4 => ⟨S96x96, .f32⟩
  | 5 => ⟨S1x224x224x96, .f32⟩
  | 6 => ⟨S1x224x224x96, .f32⟩
  | 7 => ⟨S1x224x224x96, .f32⟩
  | 8 => ⟨S1x1x96x96, .f32⟩
  | 9 => ⟨S96x96, .f32⟩
  | 10 => ⟨S1x224x224x96, .f32⟩
  | 11 => ⟨S1x224x224x96, .f32⟩
  | 12 => ⟨S1x224x224x96, .f32⟩
  | 13 => ⟨S1x1x96x96, .f32⟩
  | 14 => ⟨S96x96, .f32⟩
  | 15 => ⟨S1x224x224x96, .f32⟩
  | 16 => ⟨S1x224x224x96, .f32⟩
  | 17 => ⟨S1x224x224x96, .f32⟩
  | 18 => ⟨S1x1x96x96, .f32⟩
  | 19 => ⟨S96x96, .f32⟩
  | 20 => ⟨S1x224x224x96, .f32⟩
  | 21 => ⟨S1x224x224x96, .f32⟩
  | 22 => ⟨S1x224x224x96, .f32⟩
  | 23 => ⟨S1x1x96x96, .f32⟩
  | 24 => ⟨S96x96, .f32⟩
  | 25 => ⟨S1x224x224x96, .f32⟩
  | 26 => ⟨S1x224x224x96, .f32⟩
  | 27 => ⟨S1x224x224x96, .f32⟩
  | 28 => ⟨S1x1x96x96, .f32⟩
  | 29 => ⟨S96x96, .f32⟩
  | 30 => ⟨S1x224x224x96, .f32⟩
  | 31 => ⟨S1x224x224x96, .f32⟩
  | 32 => ⟨S1x224x224x96, .f32⟩
  | 33 => ⟨S1x224x224x96, .f32⟩
  | 34 => ⟨S_, .i32⟩
  | 35 => ⟨S_, .f32⟩
  | 36 => ⟨S1x226x226x96, .f32⟩
  | 37 => ⟨S1x224x224x96, .f32⟩
  | 38 => ⟨S1x1x96x96, .f32⟩
  | 39 => ⟨S96x96, .f32⟩
  | 40 => ⟨S1x224x224x96, .f32⟩
  | 41 => ⟨S1x224x224x96, .f32⟩
  | 42 => ⟨S1x1x96x96, .f32⟩
  | 43 => ⟨S96x96, .f32⟩
  | 44 => ⟨S1x224x224x96, .f32⟩
  | 45 => ⟨S1x224x224x96, .f32⟩
  | 46 => ⟨S1x224x224x96, .f32⟩
  | 47 => ⟨S1x1x96x96, .f32⟩
  | 48 => ⟨S96x96, .f32⟩
  | 49 => ⟨S1x224x224x96, .f32⟩
  | 50 => ⟨S1x224x224x96, .f32⟩
  | 51 => ⟨S1x224x224x96, .f32⟩
  | 52 => ⟨S1x1x96x96, .f32⟩
  | 53 => ⟨S96x96, .f32⟩
  | 54 => ⟨S1x224x224x96, .f32⟩
  | 55 => ⟨S1x224x224x96, .f32⟩
  | 56 => ⟨S1x224x224x96, .f32⟩
  | 57 => ⟨S1x1x96x96, .f32⟩
  | 58 => ⟨S96x96, .f32⟩
  | 59 => ⟨S1x224x224x96, .f32⟩
  | 60 => ⟨S1x224x224x96, .f32⟩
  | 61 => ⟨S1x224x224x96, .f32⟩
  | 62 => ⟨S1x1x96x96, .f32⟩
  | 63 => ⟨S96x96, .f32⟩
  | 64 => ⟨S1x224x224x96, .f32⟩
  | 65 => ⟨S1x224x224x96, .f32⟩
  | 66 => ⟨S1x224x224x96, .f32⟩
  | 67 => ⟨S1x1x96x96, .f32⟩
  | 68 => ⟨S96x96, .f32⟩
  | 69 => ⟨S1x224x224x96, .f32⟩
  | 70 => ⟨S1x224x224x96, .f32⟩
  | 71 => ⟨S1x224x224x96, .f32⟩
  | 72 => ⟨S1x1x96x96, .f32⟩
  | 73 => ⟨S96x96, .f32⟩
  | 74 => ⟨S1x224x224x96, .f32⟩
  | 75 => ⟨S1x224x224x96, .f32⟩
  | 76 => ⟨S1x224x224x96, .f32⟩
  | 77 => ⟨S1x1x96x96, .f32⟩
  | 78 => ⟨S96x96, .f32⟩
  | 79 => ⟨S1x224x224x96, .f32⟩
  | 80 => ⟨S1x224x224x96, .f32⟩
  | 81 => ⟨S1x224x224x96, .f32⟩
  | 82 => ⟨S1x224x224x96, .f32⟩
  | 83 => ⟨S1x224x224x96, .f32⟩
  | 84 => ⟨S1x224x224x96, .f32⟩
  | 85 => ⟨S1x224x224x96, .f32⟩
  | 86 => ⟨S1x224x224x96, .f32⟩
  | 87 => ⟨S1x224x224x96, .f32⟩
  | 88 => ⟨S1x224x224x96, .f32⟩
  | 89 => ⟨S1x224x224x96, .f32⟩
  | 90 => ⟨S1x224x224x96, .f32⟩
  | 91 => ⟨S1x224x224x96, .f32⟩
  | 92 => ⟨S1x224x224x96, .f32⟩
  | 93 => ⟨S1x224x224x96, .f32⟩
  | 94 => ⟨S1x224x224x96, .f32⟩
  | 95 => ⟨S1x224x224x96, .f32⟩
  | 96 => ⟨S1x224x224x96, .f32⟩
  | 97 => ⟨S1x224x224x96, .f32⟩
  | 98 => ⟨S_, .f32⟩
  | 99 => ⟨S1x224x224x96, .f32⟩
  | 100 => ⟨S1x224x224x96, .f32⟩
  | 101 => ⟨S1x224x224x384, .f32⟩
  | 102 => ⟨S384x96, .f32⟩
  | 103 => ⟨S1x224x224x96, .f32⟩
  | 104 => ⟨S1x1x1x96, .f32⟩
  | 105 => ⟨S1x224x224x96, .f32⟩
  | 106 => ⟨S1x224x224x96, .f32⟩
  | _ => ⟨S1x224x224x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x224x224x96, .f32⟩

abbrev bufTy : (tb : Table) → Fin (tcTables nBuf tb) → BufTy
  | .hbm, ⟨i, _⟩ => hbmTy i
  | _, _ => ⟨S1x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_15 : Ref sig .tc := ⟨.hbm, 74, rfl⟩
abbrev main_v49 : Ref sig .tc := ⟨.hbm, 75, rfl⟩
abbrev main_v50 : Ref sig .tc := ⟨.hbm, 76, rfl⟩
abbrev main_c_16 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_17 : Ref sig .tc := ⟨.hbm, 83, rfl⟩
abbrev main_v56 : Ref sig .tc := ⟨.hbm, 84, rfl⟩
abbrev main_v57 : Ref sig .tc := ⟨.hbm, 85, rfl⟩
abbrev main_c_18 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_19 : Ref sig .tc := ⟨.hbm, 92, rfl⟩
abbrev main_v63 : Ref sig .tc := ⟨.hbm, 93, rfl⟩
abbrev main_v64 : Ref sig .tc := ⟨.hbm, 94, rfl⟩
abbrev main_c_20 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_21 : Ref sig .tc := ⟨.hbm, 100, rfl⟩
abbrev main_v69 : Ref sig .tc := ⟨.hbm, 101, rfl⟩
abbrev main_v70 : Ref sig .tc := ⟨.hbm, 102, rfl⟩
abbrev main_c_22 : Ref sig .tc := ⟨.hbm, 103, rfl⟩
abbrev main_v71 : Ref sig .tc := ⟨.hbm, 104, rfl⟩
abbrev main_v72 : Ref sig .tc := ⟨.hbm, 105, rfl⟩
abbrev main_c_23 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_24 : Ref sig .tc := ⟨.hbm, 110, rfl⟩
abbrev main_v76 : Ref sig .tc := ⟨.hbm, 111, rfl⟩
abbrev main_v77 : Ref sig .tc := ⟨.hbm, 112, rfl⟩
abbrev main_c_25 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_26 : Ref sig .tc := ⟨.hbm, 119, rfl⟩
abbrev main_v83 : Ref sig .tc := ⟨.hbm, 120, rfl⟩
abbrev main_v84 : Ref sig .tc := ⟨.hbm, 121, rfl⟩
abbrev main_c_27 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_28 : Ref sig .tc := ⟨.hbm, 128, rfl⟩
abbrev main_v90 : Ref sig .tc := ⟨.hbm, 129, rfl⟩
abbrev main_v91 : Ref sig .tc := ⟨.hbm, 130, rfl⟩
abbrev main_c_29 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_30 : Ref sig .tc := ⟨.hbm, 137, rfl⟩
abbrev main_v97 : Ref sig .tc := ⟨.hbm, 138, rfl⟩
abbrev main_v98 : Ref sig .tc := ⟨.hbm, 139, rfl⟩
abbrev main_c_31 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_32 : Ref sig .tc := ⟨.hbm, 145, rfl⟩
abbrev main_v103 : Ref sig .tc := ⟨.hbm, 146, rfl⟩
abbrev main_v104 : Ref sig .tc := ⟨.hbm, 147, rfl⟩
abbrev main_c_33 : Ref sig .tc := ⟨.hbm, 148, rfl⟩
abbrev main_v105 : Ref sig .tc := ⟨.hbm, 149, rfl⟩
abbrev main_v106 : Ref sig .tc := ⟨.hbm, 150, rfl⟩
abbrev main_c_34 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_35 : Ref sig .tc := ⟨.hbm, 155, rfl⟩
abbrev main_v110 : Ref sig .tc := ⟨.hbm, 156, rfl⟩
abbrev main_v111 : Ref sig .tc := ⟨.hbm, 157, rfl⟩
abbrev main_c_36 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_37 : Ref sig .tc := ⟨.hbm, 164, rfl⟩
abbrev main_v117 : Ref sig .tc := ⟨.hbm, 165, rfl⟩
abbrev main_v118 : Ref sig .tc := ⟨.hbm, 166, rfl⟩
abbrev main_c_38 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_39 : Ref sig .tc := ⟨.hbm, 173, rfl⟩
abbrev main_v124 : Ref sig .tc := ⟨.hbm, 174, rfl⟩
abbrev main_v125 : Ref sig .tc := ⟨.hbm, 175, rfl⟩
abbrev main_c_40 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c_41 : Ref sig .tc := ⟨.hbm, 182, rfl⟩
abbrev main_v131 : Ref sig .tc := ⟨.hbm, 183, rfl⟩
abbrev main_v132 : Ref sig .tc := ⟨.hbm, 184, rfl⟩
abbrev main_c_42 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_43 : Ref sig .tc := ⟨.hbm, 190, rfl⟩
abbrev main_v137 : Ref sig .tc := ⟨.hbm, 191, rfl⟩
abbrev main_v138 : Ref sig .tc := ⟨.hbm, 192, rfl⟩
abbrev main_c_44 : Ref sig .tc := ⟨.hbm, 193, rfl⟩
abbrev main_v139 : Ref sig .tc := ⟨.hbm, 194, rfl⟩
abbrev main_v140 : Ref sig .tc := ⟨.hbm, 195, rfl⟩
abbrev main_c_45 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_46 : Ref sig .tc := ⟨.hbm, 200, rfl⟩
abbrev main_v144 : Ref sig .tc := ⟨.hbm, 201, rfl⟩
abbrev main_v145 : Ref sig .tc := ⟨.hbm, 202, rfl⟩
abbrev main_c_47 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_c_48 : Ref sig .tc := ⟨.hbm, 209, rfl⟩
abbrev main_v151 : Ref sig .tc := ⟨.hbm, 210, rfl⟩
abbrev main_v152 : Ref sig .tc := ⟨.hbm, 211, rfl⟩
abbrev main_c_49 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_c_50 : Ref sig .tc := ⟨.hbm, 218, rfl⟩
abbrev main_v158 : Ref sig .tc := ⟨.hbm, 219, rfl⟩
abbrev main_v159 : Ref sig .tc := ⟨.hbm, 220, rfl⟩
abbrev main_c_51 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_c_52 : Ref sig .tc := ⟨.hbm, 227, rfl⟩
abbrev main_v165 : Ref sig .tc := ⟨.hbm, 228, rfl⟩
abbrev main_v166 : Ref sig .tc := ⟨.hbm, 229, rfl⟩
abbrev main_c_53 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_c_54 : Ref sig .tc := ⟨.hbm, 235, rfl⟩
abbrev main_v171 : Ref sig .tc := ⟨.hbm, 236, rfl⟩
abbrev main_v172 : Ref sig .tc := ⟨.hbm, 237, rfl⟩
abbrev main_c_55 : Ref sig .tc := ⟨.hbm, 238, rfl⟩
abbrev main_v173 : Ref sig .tc := ⟨.hbm, 239, rfl⟩
abbrev main_v174 : Ref sig .tc := ⟨.hbm, 240, rfl⟩
abbrev main_c_56 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_c_57 : Ref sig .tc := ⟨.hbm, 245, rfl⟩
abbrev main_v178 : Ref sig .tc := ⟨.hbm, 246, rfl⟩
abbrev main_v179 : Ref sig .tc := ⟨.hbm, 247, rfl⟩
abbrev main_c_58 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst : Ref sig .tc := ⟨.hbm, 252, rfl⟩
abbrev main_v183 : Ref sig .tc := ⟨.hbm, 253, rfl⟩
abbrev main_v184 : Ref sig .tc := ⟨.hbm, 254, rfl⟩
abbrev main_cst_59 : Ref sig .tc := ⟨.hbm, 255, rfl⟩
abbrev main_cst_60 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_61 : Ref sig .tc := ⟨.hbm, 260, rfl⟩
abbrev main_v188 : Ref sig .tc := ⟨.hbm, 261, rfl⟩
abbrev main_v189 : Ref sig .tc := ⟨.hbm, 262, rfl⟩
abbrev main_cst_62 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_cst_63 : Ref sig .tc := ⟨.hbm, 271, rfl⟩
abbrev main_v197 : Ref sig .tc := ⟨.hbm, 272, rfl⟩
abbrev main_v198 : Ref sig .tc := ⟨.hbm, 273, rfl⟩
abbrev main_cst_64 : Ref sig .tc := ⟨.hbm, 274, rfl⟩
abbrev main_v199 : Ref sig .tc := ⟨.hbm, 275, rfl⟩
abbrev main_cst_65 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_cst_66 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_c_67 : Ref sig .tc := ⟨.hbm, 294, rfl⟩
abbrev main_call0_v0 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_cst_68 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_c_69 : Ref sig .tc := ⟨.hbm, 365, rfl⟩
abbrev main_call1_v0 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_c_70 : Ref sig .tc := ⟨.hbm, 414, rfl⟩
abbrev main_call2_v0 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_v351 : Ref sig .tc := ⟨.hbm, 436, rfl⟩
abbrev main_v352 : Ref sig .tc := ⟨.hbm, 437, rfl⟩
abbrev main_v353 : Ref sig .tc := ⟨.hbm, 438, rfl⟩
abbrev main_v354 : Ref sig .tc := ⟨.hbm, 439, rfl⟩
abbrev main_v355 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_cst_71 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_v408 : Ref sig .tc := ⟨.hbm, 494, rfl⟩
abbrev main_c_72 : Ref sig .tc := ⟨.hbm, 495, rfl⟩
abbrev main_call3_v0 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_v417 : Ref sig .tc := ⟨.hbm, 505, rfl⟩
abbrev main_v418 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_v422 : Ref sig .tc := ⟨.hbm, 510, rfl⟩
abbrev main_v423 : Ref sig .tc := ⟨.hbm, 511, rfl⟩
abbrev main_v424 : Ref sig .tc := ⟨.hbm, 512, rfl⟩
abbrev main_v425 : Ref sig .tc := ⟨.hbm, 513, rfl⟩
abbrev main_v426 : Ref sig .tc := ⟨.hbm, 514, rfl⟩
abbrev main_v427 : Ref sig .tc := ⟨.hbm, 515, rfl⟩
abbrev main_v428 : Ref sig .tc := ⟨.hbm, 516, rfl⟩
abbrev main_v429 : Ref sig .tc := ⟨.hbm, 517, rfl⟩
abbrev main_v430 : Ref sig .tc := ⟨.hbm, 518, rfl⟩
abbrev main_v431 : Ref sig .tc := ⟨.hbm, 519, rfl⟩
abbrev main_v432 : Ref sig .tc := ⟨.hbm, 520, rfl⟩
abbrev main_v433 : Ref sig .tc := ⟨.hbm, 521, rfl⟩
abbrev main_v434 : Ref sig .tc := ⟨.hbm, 522, rfl⟩
abbrev main_v435 : Ref sig .tc := ⟨.hbm, 523, rfl⟩
abbrev main_v436 : Ref sig .tc := ⟨.hbm, 524, rfl⟩
abbrev main_v437 : Ref sig .tc := ⟨.hbm, 525, rfl⟩
abbrev main_v438 : Ref sig .tc := ⟨.hbm, 526, rfl⟩
abbrev main_v439 : Ref sig .tc := ⟨.hbm, 527, rfl⟩
abbrev main_v440 : Ref sig .tc := ⟨.hbm, 528, rfl⟩
abbrev main_v441 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_c_73 : Ref sig .tc := ⟨.hbm, 544, rfl⟩
abbrev main_call4_v0 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_v465 : Ref sig .tc := ⟨.hbm, 555, rfl⟩
abbrev main_v466 : Ref sig .tc := ⟨.hbm, 556, rfl⟩
abbrev main_v467 : Ref sig .tc := ⟨.hbm, 557, rfl⟩
abbrev main_v468 : Ref sig .tc := ⟨.hbm, 558, rfl⟩
abbrev main_v469 : Ref sig .tc := ⟨.hbm, 559, rfl⟩
abbrev main_v470 : Ref sig .tc := ⟨.hbm, 560, rfl⟩
abbrev main_v471 : Ref sig .tc := ⟨.hbm, 561, rfl⟩
abbrev main_v472 : Ref sig .tc := ⟨.hbm, 562, rfl⟩
abbrev main_v473 : Ref sig .tc := ⟨.hbm, 563, rfl⟩
abbrev main_v474 : Ref sig .tc := ⟨.hbm, 564, rfl⟩
abbrev main_v475 : Ref sig .tc := ⟨.hbm, 565, rfl⟩
abbrev main_v476 : Ref sig .tc := ⟨.hbm, 566, rfl⟩
abbrev main_v477 : Ref sig .tc := ⟨.hbm, 567, rfl⟩
abbrev main_v478 : Ref sig .tc := ⟨.hbm, 568, rfl⟩
abbrev main_v479 : Ref sig .tc := ⟨.hbm, 569, rfl⟩
abbrev main_v480 : Ref sig .tc := ⟨.hbm, 570, rfl⟩
abbrev main_v481 : Ref sig .tc := ⟨.hbm, 571, rfl⟩
abbrev main_v482 : Ref sig .tc := ⟨.hbm, 572, rfl⟩
abbrev main_v483 : Ref sig .tc := ⟨.hbm, 573, rfl⟩
abbrev main_v484 : Ref sig .tc := ⟨.hbm, 574, rfl⟩
abbrev main_v485 : Ref sig .tc := ⟨.hbm, 575, rfl⟩
abbrev main_v486 : Ref sig .tc := ⟨.hbm, 576, rfl⟩
abbrev main_v487 : Ref sig .tc := ⟨.hbm, 577, rfl⟩
abbrev main_v488 : Ref sig .tc := ⟨.hbm, 578, rfl⟩
abbrev main_v489 : Ref sig .tc := ⟨.hbm, 579, rfl⟩
abbrev main_v490 : Ref sig .tc := ⟨.hbm, 580, rfl⟩
abbrev main_v491 : Ref sig .tc := ⟨.hbm, 581, rfl⟩
abbrev main_v492 : Ref sig .tc := ⟨.hbm, 582, rfl⟩
abbrev main_v493 : Ref sig .tc := ⟨.hbm, 583, rfl⟩
abbrev main_v494 : Ref sig .tc := ⟨.hbm, 584, rfl⟩
abbrev main_v495 : Ref sig .tc := ⟨.hbm, 585, rfl⟩
abbrev main_v496 : Ref sig .tc := ⟨.hbm, 586, rfl⟩
abbrev main_v497 : Ref sig .tc := ⟨.hbm, 587, rfl⟩
abbrev main_v498 : Ref sig .tc := ⟨.hbm, 588, rfl⟩
abbrev main_v499 : Ref sig .tc := ⟨.hbm, 589, rfl⟩
abbrev main_v500 : Ref sig .tc := ⟨.hbm, 590, rfl⟩
abbrev main_v501 : Ref sig .tc := ⟨.hbm, 591, rfl⟩
abbrev main_v502 : Ref sig .tc := ⟨.hbm, 592, rfl⟩
abbrev main_v503 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_v510 : Ref sig .tc := ⟨.hbm, 600, rfl⟩
abbrev main_v511 : Ref sig .tc := ⟨.hbm, 601, rfl⟩
abbrev main_v512 : Ref sig .tc := ⟨.hbm, 602, rfl⟩
abbrev main_v513 : Ref sig .tc := ⟨.hbm, 603, rfl⟩
abbrev main_v514 : Ref sig .tc := ⟨.hbm, 604, rfl⟩
abbrev main_v515 : Ref sig .tc := ⟨.hbm, 605, rfl⟩
abbrev main_v516 : Ref sig .tc := ⟨.hbm, 606, rfl⟩
abbrev main_v517 : Ref sig .tc := ⟨.hbm, 607, rfl⟩
abbrev main_cst_74 : Ref sig .tc := ⟨.hbm, 608, rfl⟩
abbrev main_v518 : Ref sig .tc := ⟨.hbm, 609, rfl⟩
abbrev main_v519 : Ref sig .tc := ⟨.hbm, 610, rfl⟩
abbrev main_v520 : Ref sig .tc := ⟨.hbm, 611, rfl⟩
abbrev main_v521 : Ref sig .tc := ⟨.hbm, 612, rfl⟩
abbrev main_v522 : Ref sig .tc := ⟨.hbm, 613, rfl⟩
abbrev main_v523 : Ref sig .tc := ⟨.hbm, 614, rfl⟩
abbrev main_v524 : Ref sig .tc := ⟨.hbm, 615, rfl⟩
abbrev main_v525 : Ref sig .tc := ⟨.hbm, 616, rfl⟩
abbrev main_v526 : Ref sig .tc := ⟨.hbm, 617, rfl⟩
abbrev main_v527 : Ref sig .tc := ⟨.hbm, 618, rfl⟩
abbrev main_v528 : Ref sig .tc := ⟨.hbm, 619, rfl⟩
abbrev main_v529 : Ref sig .tc := ⟨.hbm, 620, rfl⟩
abbrev main_v530 : Ref sig .tc := ⟨.hbm, 621, rfl⟩
abbrev main_v531 : Ref sig .tc := ⟨.hbm, 622, rfl⟩
abbrev main_v532 : Ref sig .tc := ⟨.hbm, 623, rfl⟩
abbrev main_v533 : Ref sig .tc := ⟨.hbm, 624, rfl⟩
abbrev main_c_75 : Ref sig .tc := ⟨.hbm, 625, rfl⟩
abbrev main_call5_v0 : Ref sig .tc := ⟨.hbm, 626, rfl⟩
abbrev main_v534 : Ref sig .tc := ⟨.hbm, 627, rfl⟩
abbrev main_v535 : Ref sig .tc := ⟨.hbm, 628, rfl⟩
abbrev main_v536 : Ref sig .tc := ⟨.hbm, 629, rfl⟩
abbrev main_v537 : Ref sig .tc := ⟨.hbm, 630, rfl⟩
abbrev main_v538 : Ref sig .tc := ⟨.hbm, 631, rfl⟩
abbrev main_v539 : Ref sig .tc := ⟨.hbm, 632, rfl⟩
abbrev main_v540 : Ref sig .tc := ⟨.hbm, 633, rfl⟩
abbrev main_v541 : Ref sig .tc := ⟨.hbm, 634, rfl⟩
abbrev main_v542 : Ref sig .tc := ⟨.hbm, 635, rfl⟩
abbrev main_v543 : Ref sig .tc := ⟨.hbm, 636, rfl⟩
abbrev main_v544 : Ref sig .tc := ⟨.hbm, 637, rfl⟩
abbrev main_v545 : Ref sig .tc := ⟨.hbm, 638, rfl⟩
abbrev main_v546 : Ref sig .tc := ⟨.hbm, 639, rfl⟩
abbrev main_v547 : Ref sig .tc := ⟨.hbm, 640, rfl⟩
abbrev main_v548 : Ref sig .tc := ⟨.hbm, 641, rfl⟩
abbrev main_v549 : Ref sig .tc := ⟨.hbm, 642, rfl⟩
abbrev main_v550 : Ref sig .tc := ⟨.hbm, 643, rfl⟩
abbrev main_v551 : Ref sig .tc := ⟨.hbm, 644, rfl⟩
abbrev main_v552 : Ref sig .tc := ⟨.hbm, 645, rfl⟩
abbrev main_v553 : Ref sig .tc := ⟨.hbm, 646, rfl⟩
abbrev main_v554 : Ref sig .tc := ⟨.hbm, 647, rfl⟩
abbrev main_v555 : Ref sig .tc := ⟨.hbm, 648, rfl⟩
abbrev main_v556 : Ref sig .tc := ⟨.hbm, 649, rfl⟩
abbrev main_v557 : Ref sig .tc := ⟨.hbm, 650, rfl⟩
abbrev main_v558 : Ref sig .tc := ⟨.hbm, 651, rfl⟩
abbrev main_v559 : Ref sig .tc := ⟨.hbm, 652, rfl⟩
abbrev main_v560 : Ref sig .tc := ⟨.hbm, 653, rfl⟩
abbrev main_v561 : Ref sig .tc := ⟨.hbm, 654, rfl⟩
abbrev main_v562 : Ref sig .tc := ⟨.hbm, 655, rfl⟩
abbrev main_v563 : Ref sig .tc := ⟨.hbm, 656, rfl⟩
abbrev main_v564 : Ref sig .tc := ⟨.hbm, 657, rfl⟩
abbrev main_v565 : Ref sig .tc := ⟨.hbm, 658, rfl⟩
abbrev main_v566 : Ref sig .tc := ⟨.hbm, 659, rfl⟩
abbrev main_v567 : Ref sig .tc := ⟨.hbm, 660, rfl⟩
abbrev main_v568 : Ref sig .tc := ⟨.hbm, 661, rfl⟩
abbrev main_v569 : Ref sig .tc := ⟨.hbm, 662, rfl⟩
abbrev main_v570 : Ref sig .tc := ⟨.hbm, 663, rfl⟩
abbrev main_v571 : Ref sig .tc := ⟨.hbm, 664, rfl⟩
abbrev main_v572 : Ref sig .tc := ⟨.hbm, 665, rfl⟩
abbrev main_v573 : Ref sig .tc := ⟨.hbm, 666, rfl⟩
abbrev main_v574 : Ref sig .tc := ⟨.hbm, 667, rfl⟩
abbrev main_v575 : Ref sig .tc := ⟨.hbm, 668, rfl⟩
abbrev main_v576 : Ref sig .tc := ⟨.hbm, 669, rfl⟩
abbrev main_v577 : Ref sig .tc := ⟨.hbm, 670, rfl⟩
abbrev main_v578 : Ref sig .tc := ⟨.hbm, 671, rfl⟩
abbrev main_v579 : Ref sig .tc := ⟨.hbm, 672, rfl⟩
abbrev main_v580 : Ref sig .tc := ⟨.hbm, 673, rfl⟩
abbrev main_c_76 : Ref sig .tc := ⟨.hbm, 674, rfl⟩
abbrev main_call6_v0 : Ref sig .tc := ⟨.hbm, 675, rfl⟩
abbrev main_v581 : Ref sig .tc := ⟨.hbm, 676, rfl⟩
abbrev main_v582 : Ref sig .tc := ⟨.hbm, 677, rfl⟩
abbrev main_v583 : Ref sig .tc := ⟨.hbm, 678, rfl⟩
abbrev main_v584 : Ref sig .tc := ⟨.hbm, 679, rfl⟩
abbrev main_v585 : Ref sig .tc := ⟨.hbm, 680, rfl⟩
abbrev main_v586 : Ref sig .tc := ⟨.hbm, 681, rfl⟩
abbrev main_v587 : Ref sig .tc := ⟨.hbm, 682, rfl⟩
abbrev main_v588 : Ref sig .tc := ⟨.hbm, 683, rfl⟩
abbrev main_v589 : Ref sig .tc := ⟨.hbm, 684, rfl⟩
abbrev main_v590 : Ref sig .tc := ⟨.hbm, 685, rfl⟩
abbrev main_v591 : Ref sig .tc := ⟨.hbm, 686, rfl⟩
abbrev main_v592 : Ref sig .tc := ⟨.hbm, 687, rfl⟩
abbrev main_v593 : Ref sig .tc := ⟨.hbm, 688, rfl⟩
abbrev main_v594 : Ref sig .tc := ⟨.hbm, 689, rfl⟩
abbrev main_v595 : Ref sig .tc := ⟨.hbm, 690, rfl⟩
abbrev main_v596 : Ref sig .tc := ⟨.hbm, 691, rfl⟩
abbrev main_v597 : Ref sig .tc := ⟨.hbm, 692, rfl⟩
abbrev main_v598 : Ref sig .tc := ⟨.hbm, 693, rfl⟩
abbrev main_v599 : Ref sig .tc := ⟨.hbm, 694, rfl⟩
abbrev main_v600 : Ref sig .tc := ⟨.hbm, 695, rfl⟩
abbrev main_v601 : Ref sig .tc := ⟨.hbm, 696, rfl⟩
abbrev main_v602 : Ref sig .tc := ⟨.hbm, 697, rfl⟩
abbrev main_v603 : Ref sig .tc := ⟨.hbm, 698, rfl⟩
abbrev main_v604 : Ref sig .tc := ⟨.hbm, 699, rfl⟩
abbrev main_v605 : Ref sig .tc := ⟨.hbm, 700, rfl⟩
abbrev main_v606 : Ref sig .tc := ⟨.hbm, 701, rfl⟩
abbrev main_v607 : Ref sig .tc := ⟨.hbm, 702, rfl⟩
abbrev main_v608 : Ref sig .tc := ⟨.hbm, 703, rfl⟩
abbrev main_v609 : Ref sig .tc := ⟨.hbm, 704, rfl⟩
abbrev main_v610 : Ref sig .tc := ⟨.hbm, 705, rfl⟩
abbrev main_v611 : Ref sig .tc := ⟨.hbm, 706, rfl⟩
abbrev main_v612 : Ref sig .tc := ⟨.hbm, 707, rfl⟩
abbrev main_v613 : Ref sig .tc := ⟨.hbm, 708, rfl⟩
abbrev main_v614 : Ref sig .tc := ⟨.hbm, 709, rfl⟩
abbrev main_v615 : Ref sig .tc := ⟨.hbm, 710, rfl⟩
abbrev main_v616 : Ref sig .tc := ⟨.hbm, 711, rfl⟩
abbrev main_v617 : Ref sig .tc := ⟨.hbm, 712, rfl⟩
abbrev main_v618 : Ref sig .tc := ⟨.hbm, 713, rfl⟩
abbrev main_v619 : Ref sig .tc := ⟨.hbm, 714, rfl⟩
abbrev main_v620 : Ref sig .tc := ⟨.hbm, 715, rfl⟩
abbrev main_v621 : Ref sig .tc := ⟨.hbm, 716, rfl⟩
abbrev main_v622 : Ref sig .tc := ⟨.hbm, 717, rfl⟩
abbrev main_v623 : Ref sig .tc := ⟨.hbm, 718, rfl⟩
abbrev main_v624 : Ref sig .tc := ⟨.hbm, 719, rfl⟩
abbrev main_v625 : Ref sig .tc := ⟨.hbm, 720, rfl⟩
abbrev main_v626 : Ref sig .tc := ⟨.hbm, 721, rfl⟩
abbrev main_v627 : Ref sig .tc := ⟨.hbm, 722, rfl⟩
abbrev main_v628 : Ref sig .tc := ⟨.hbm, 723, rfl⟩
abbrev main_v629 : Ref sig .tc := ⟨.hbm, 724, rfl⟩
abbrev main_v630 : Ref sig .tc := ⟨.hbm, 725, rfl⟩
abbrev main_v631 : Ref sig .tc := ⟨.hbm, 726, rfl⟩
abbrev main_v632 : Ref sig .tc := ⟨.hbm, 727, rfl⟩
abbrev main_v633 : Ref sig .tc := ⟨.hbm, 728, rfl⟩
abbrev main_v634 : Ref sig .tc := ⟨.hbm, 729, rfl⟩
abbrev main_v635 : Ref sig .tc := ⟨.hbm, 730, rfl⟩
abbrev main_v636 : Ref sig .tc := ⟨.hbm, 731, rfl⟩
abbrev main_v637 : Ref sig .tc := ⟨.hbm, 732, rfl⟩
abbrev main_v638 : Ref sig .tc := ⟨.hbm, 733, rfl⟩
abbrev main_v639 : Ref sig .tc := ⟨.hbm, 734, rfl⟩
abbrev main_v640 : Ref sig .tc := ⟨.hbm, 735, rfl⟩
abbrev main_v641 : Ref sig .tc := ⟨.hbm, 736, rfl⟩
abbrev main_v642 : Ref sig .tc := ⟨.hbm, 737, rfl⟩
abbrev main_cst_77 : Ref sig .tc := ⟨.hbm, 738, rfl⟩
abbrev main_v643 : Ref sig .tc := ⟨.hbm, 739, rfl⟩
abbrev main_v644 : Ref sig .tc := ⟨.hbm, 740, rfl⟩
abbrev main_v645 : Ref sig .tc := ⟨.hbm, 741, rfl⟩
abbrev main_v646 : Ref sig .tc := ⟨.hbm, 742, rfl⟩
abbrev main_v647 : Ref sig .tc := ⟨.hbm, 743, rfl⟩
abbrev main_v648 : Ref sig .tc := ⟨.hbm, 744, rfl⟩
abbrev main_v649 : Ref sig .tc := ⟨.hbm, 745, rfl⟩
abbrev main_v650 : Ref sig .tc := ⟨.hbm, 746, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton

@[expose] public section

set_option maxRecDepth 16384

/-! # The body of the kernel, executed at one grid point -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, executed at one grid point over arbitrary contents of its windows and scratch buffers: the stores it leaves in the
two output windows, with the proof that it ends there, its inputs unchanged. -/
noncomputable def run (c : Dev nD) (i : grid0.Coords) (arg1 : Memref sig .tc .vmem S232x226x128 .bf16) (harg1 : arg1.IsWhole) (arg2 : Memref sig .tc .vmem S232x224 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x8 .f32) (harg5 : arg5.IsWhole) (arg6 : Memref sig .tc .vmem S128x8 .f32) (harg6 : arg6.IsWhole) (arg7 : Memref sig .tc .vmem S3x3x128x128 .bf16) (harg7 : arg7.IsWhole) (arg8 : Memref sig .tc .vmem S3x3x128x128 .f32) (harg8 : arg8.IsWhole) (arg9 : Memref sig .tc .vmem S3x3x128x128 .f32) (harg9 : arg9.IsWhole) (arg10 : Memref sig .tc .vmem S3x3x128x128 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S32x224x96 .f32) (harg13 : arg13.IsWhole) (arg14 : Memref sig .tc .vmem S1x8x128 .f32) (harg14 : arg14.IsWhole) (arg15 : Memref sig .tc .vmem S38x226x128 .bf16) (harg15 : arg15.IsWhole) (arg16 : Memref sig .tc .vmem S38x226x128 .bf16) (harg16 : arg16.IsWhole)
    (x0 : Vec F S232x226x128 .bf16) (x1 : Vec F S232x224 .f32) (x2 : Vec F S8x128 .f32) (x3 : Vec F S8x128 .f32) (x4 : Vec F S128x8 .f32) (x5 : Vec F S128x8 .f32) (x6 : Vec F S3x3x128x128 .bf16) (x7 : Vec F S3x3x128x128 .f32) (x8 : Vec F S3x3x128x128 .f32) (x9 : Vec F S3x3x128x128 .f32) (x10 : Vec F S512x128 .bf16) (x11 : Vec F S1x128 .f32)
    (d15 d16 : Vec F S38x226x128 .bf16) :
    Σ' (L12 : List (View.Piece (Elt F) S32x224x96 .f32)), Σ' (L13 : List (View.Piece (Elt F) S1x8x128 .f32)), { _u : Unit //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare d15 ∗ owns (c : Thread nD τ) arg16 fullShare d16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d)) -∗ K ⟨⟩))
          ⊢ wp frame (wpE (defs₀ (F := F)) Variants.none c none) E (cc0__smb_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, (), fun E K => ?run⟩
  case run =>
    simp only [cc0__smb_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]; unfold cc0__smb_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hs0, HS0⟩, ⟨%fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg15.eq_unread hs0; obtain rfl := harg16.eq_unread hs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [HS0]
    · iexists _, _; isplitr; swap; · iexact HS0
      ipureintro; rfl
    iexists _, _; isplitr; swap; · iexact HS1
    ipureintro; rfl

end Cert.KernelIdeal.Body
-- ==== Proof.KernelIdeal.Block.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.ValueIdxCore

@[expose] public section

set_option maxRecDepth 16384

/-! # What one grid point computes, as functions of the blocks it reads

The kernel keeps the activations of a layer in a scratch buffer with one zero column on the left and one on the right, and
reads that buffer at the three column offsets 0, 1 and 2. `cols k x` is what the read at column offset `k` yields when the
buffer holds the activations `x`. With it the four layers are plain functions of the loaded blocks, and `yBlock` and
`cmBlock` are the two blocks the grid point stores. -/

noncomputable section

namespace Cert.KernelIdeal.Block

open Cert.KernelIdeal Cert.KernelIdeal.Gen
open Idealize.ShloMosaic Idealize.ShloMosaic.TcCoe Idealize.SL.Sem

variable {F : FTy → Type} [FloatOps F]

/-- The tap `(a, b)` of a 3 × 3 weight array: its 128 × 128 matrix. -/
def tap {φ : EltTy} (w : Vec F S3x3x128x128 φ) (a b : ℕ) (ha : a < 3 := by decide) (hb : b < 3 := by decide) :
    Vec F S1x1x128x128 φ :=
  View.ld w (Rect.unit ![a, b, 0, 0] S1x1x128x128.size (by
    intro x; fin_cases x
    · show a + 1 ≤ 3; omega
    · show b + 1 ≤ 3; omega
    · show 0 + 128 ≤ 128; omega
    · show 0 + 128 ≤ 128; omega))

/-- The bf16 zero the kernel puts into the border columns of the scratch buffers. -/
def zero : F .bf16 := Scalar.ofBits .bf16 0x0000#16

/-- Rows of 224 pixels read one column to the left (`k = 0`), in place (`k = 1`) or one column to the right (`k = 2`), with
zeros outside the image. -/
def cols {n : ℕ} (k : ℕ) (x : Vec F ⟨3, ![n, 224, 128]⟩ .bf16) : Vec F ⟨3, ![n, 224, 128]⟩ .bf16 := fun j =>
  if h : 1 ≤ (j 1).val + k ∧ (j 1).val + k < 225 then x (ix3 (j 0) (⟨(j 1).val + k - 1, by omega⟩ : Fin 224) (j 2)) else zero

/-- The sums of products of the first layer. -/
def acc1 (f0 f1 f2 : Vec F S40x224x128 .bf16) (w : Vec F S3x3x128x128 .bf16) : FVec F S8512x128 .f32 :=
  k0_pay71 (k0_pay66 f0) (k0_pay67 f1) (k0_pay68 f2) (k0_pay69 f0 f1 (tap w 0 0) (tap w 0 1)) (k0_pay70 (tap w 0 2))
    (tap w 1 0) (tap w 1 1) (tap w 1 2) (tap w 2 0) (tap w 2 1)

/-- The first layer's activations as they are stored: row block `g`, dense and sparse channel masks `d` and `s`, spatial mask
`sp`, features `f0 f1 f2` at the three column offsets, weights `w`. -/
def layer1 (g : BitVec 32) (d s : FVec F S1x128 .f32) (sp : FVec F S40x224 .f32) (f0 f1 f2 : Vec F S40x224x128 .bf16)
    (w : Vec F S3x3x128x128 .bf16) : FVec F S38x224x128 .bf16 :=
  k0_pay75 g d s sp (acc1 f0 f1 f2 w) (k0_pay72 (tap w 2 2)) (k0_pay73 (k0_pay68 f2))

/-- The 32 central rows of the first layer's activations, as rows of a matrix. -/
def mid1 (g : BitVec 32) (d s : FVec F S1x128 .f32) (sp : FVec F S40x224 .f32) (f0 f1 f2 : Vec F S40x224x128 .bf16)
    (w : Vec F S3x3x128x128 .bf16) : FVec F S7168x128 .bf16 :=
  k0_pay76 g d s sp (acc1 f0 f1 f2 w) (k0_pay72 (tap w 2 2)) (k0_pay73 (k0_pay68 f2))

/-- The sums of products of the second layer, the last tap left out. -/
def acc2 (dT sT : FVec F S128x1 .f32) (p0 p1 p2 : Vec F S38x224x128 .bf16) (w : Vec F S3x3x128x128 .f32) : FVec F S8064x256 .f32 :=
  k0_pay81 dT sT p0 p1 p2
    (k0_pay79 dT sT p0 p2 (k0_pay77 dT sT p0 p1 (tap w 0 0) (tap w 0 0) (tap w 0 1) (tap w 0 1))
      (k0_pay78 dT sT (tap w 0 2) (tap w 0 2)) (tap w 1 0) (tap w 1 0))
    (k0_pay80 dT sT (tap w 1 1) (tap w 1 1) (tap w 1 2) (tap w 1 2)) (tap w 2 0) (tap w 2 0) (tap w 2 1) (tap w 2 1)

/-- The second layer's activations before they are rounded: column masks `dT sT` of the layer before, row masks `d s` of this
layer, activations `p0 p1 p2` of the layer before at the three column offsets. -/
def layer2 (g : BitVec 32) (dT sT : FVec F S128x1 .f32) (d s : FVec F S1x128 .f32) (sp : FVec F S40x224 .f32)
    (p0 p1 p2 : Vec F S38x224x128 .bf16) (w : Vec F S3x3x128x128 .f32) : FVec F S36x224x128 .f32 :=
  k0_pay83 g sT d s sp p2 (acc2 dT sT p0 p1 p2 w) (k0_pay82 dT (tap w 2 2)) (tap w 2 2)

/-- The second layer's activations as they are stored. -/
def store2 (g : BitVec 32) (dT sT : FVec F S128x1 .f32) (d s : FVec F S1x128 .f32) (sp : FVec F S40x224 .f32)
    (p0 p1 p2 : Vec F S38x224x128 .bf16) (w : Vec F S3x3x128x128 .f32) : FVec F S36x224x128 .bf16 :=
  k0_pay84 g sT d s sp p2 (acc2 dT sT p0 p1 p2 w) (k0_pay82 dT (tap w 2 2)) (tap w 2 2)

/-- The sums of products of the third layer, the last three taps left out. -/
def acc3 (dT sT : FVec F S128x1 .f32) (p0 p1 p2 : Vec F S36x224x128 .bf16) (w : Vec F S3x3x128x128 .f32) : FVec F S7616x256 .f32 :=
  k0_pay89 dT sT p1 p2
    (k0_pay87 dT sT p0 p2 (k0_pay86 dT sT p0 p1 (tap w 0 0) (tap w 0 0) (tap w 0 1) (tap w 0 1))
      (tap w 0 2) (tap w 0 2) (tap w 1 0) (tap w 1 0))
    (k0_pay88 dT sT (tap w 1 1) (tap w 1 1)) (tap w 1 2) (tap w 1 2)

/-- The third layer's convolution with the dense columns. -/
def dense3 (dT sT : FVec F S128x1 .f32) (p0 p1 p2 : Vec F S36x224x128 .bf16) (w : Vec F S3x3x128x128 .f32) : FVec F S34x224x128 .f32 :=
  k0_pay92 dT sT p0 p1 p2 (acc3 dT sT p0 p1 p2 w) (k0_pay90 dT sT (tap w 2 0) (tap w 2 0) (tap w 2 1) (tap w 2 1)) (tap w 2 2) (tap w 2 2)

/-- The third layer's convolution with the sparse columns. -/
def sparse3 (dT sT : FVec F S128x1 .f32) (p0 p1 p2 : Vec F S36x224x128 .bf16) (w : Vec F S3x3x128x128 .f32) : FVec F S34x224x128 .f32 :=
  k0_pay93 dT sT p0 p1 p2 (acc3 dT sT p0 p1 p2 w) (k0_pay90 dT sT (tap w 2 0) (tap w 2 0) (tap w 2 1) (tap w 2 1)) (tap w 2 2) (tap w 2 2)

/-- The third layer's activations as they are stored. -/
def store3 (g : BitVec 32) (dT sT : FVec F S128x1 .f32) (d s : FVec F S1x128 .f32) (sp : FVec F S40x224 .f32)
    (p0 p1 p2 : Vec F S36x224x128 .bf16) (w : Vec F S3x3x128x128 .f32) : FVec F S34x224x128 .bf16 :=
  k0_pay99 (dense3 dT sT p0 p1 p2 w) (sparse3 dT sT p0 p1 p2 w) (k0_pay94 sp) (k0_pay95 s sp) (k0_pay96 g) (k0_pay97 d)

/-- The 32 central rows of the third layer's activations, as rows of a matrix. -/
def mid3 (g : BitVec 32) (dT sT : FVec F S128x1 .f32) (d s : FVec F S1x128 .f32) (sp : FVec F S40x224 .f32)
    (p0 p1 p2 : Vec F S36x224x128 .bf16) (w : Vec F S3x3x128x128 .f32) : FVec F S7168x128 .bf16 :=
  k0_pay100 (dense3 dT sT p0 p1 p2 w) (sparse3 dT sT p0 p1 p2 w) (k0_pay94 sp) (k0_pay95 s sp) (k0_pay96 g) (k0_pay97 d)

/-- The sums of products of the fourth layer, the last three taps left out. -/
def acc4 (dT sT : FVec F S128x1 .f32) (p0 p1 p2 : Vec F S34x224x128 .bf16) (w : Vec F S3x3x128x128 .f32) : FVec F S7168x256 .f32 :=
  k0_pay104 dT sT p1 p2
    (k0_pay103 dT sT p0 p1 p2 (k0_pay101 dT sT (tap w 0 0) (tap w 0 0)) (k0_pay102 dT (tap w 0 1)) (tap w 0 1)
      (tap w 0 2) (tap w 0 2) (tap w 1 0) (tap w 1 0))
    (tap w 1 1) (tap w 1 1) (tap w 1 2) (tap w 1 2)

/-- The fourth layer's convolution with the dense columns. -/
def dense4 (dT sT : FVec F S128x1 .f32) (p0 p1 p2 : Vec F S34x224x128 .bf16) (w : Vec F S3x3x128x128 .f32) : FVec F S32x224x128 .f32 :=
  k0_pay107 dT sT p0 p1 p2 (acc4 dT sT p0 p1 p2 w) (k0_pay105 dT sT (tap w 2 0) (tap w 2 0)) (tap w 2 1) (tap w 2 1) (tap w 2 2) (tap w 2 2)

/-- The fourth layer's convolution with the sparse columns. -/
def sparse4 (dT sT : FVec F S128x1 .f32) (p0 p1 p2 : Vec F S34x224x128 .bf16) (w : Vec F S3x3x128x128 .f32) : FVec F S32x224x128 .f32 :=
  k0_pay108 dT sT p0 p1 p2 (acc4 dT sT p0 p1 p2 w) (k0_pay105 dT sT (tap w 2 0) (tap w 2 0)) (tap w 2 1) (tap w 2 1) (tap w 2 2) (tap w 2 2)

/-- The number of the first row of the block a grid point works on. -/
def row (i : grid0.Coords) : BitVec 32 := Scalar.muli (BitVec.ofNat 32 (i 0)) 32#32

/-- The rows of the padded spatial mask a grid point reads. -/
def spat (i : grid0.Coords) (x1 : Vec F S232x224 .f32) : FVec F S40x224 .f32 :=
  k0_pay65 (View.ld x1 (Rect.unit (s := S232x224) (k0_off1 i) S40x224.size (k0_off1_inb i)))

/-- The first layer's activations of a grid point, from the blocks it reads. -/
def a1 (i : grid0.Coords) (x0 : Vec F S232x226x128 .bf16) (x1 : Vec F S232x224 .f32) (x2 x3 : Vec F S8x128 .f32)
    (x6 : Vec F S3x3x128x128 .bf16) : FVec F S38x224x128 .bf16 :=
  layer1 (row i) (k0_pay9 x2 x3) (k0_pay10 x2 x3) (spat i x1)
    (View.ld x0 (Rect.unit (s := S232x226x128) (k0_off2 i) S40x224x128.size (k0_off2_inb i)))
    (View.ld x0 (Rect.unit (s := S232x226x128) (k0_off3 i) S40x224x128.size (k0_off3_inb i)))
    (View.ld x0 (Rect.unit (s := S232x226x128) (k0_off4 i) S40x224x128.size (k0_off4_inb i))) x6

/-- Their 32 central rows. -/
def m1 (i : grid0.Coords) (x0 : Vec F S232x226x128 .bf16) (x1 : Vec F S232x224 .f32) (x2 x3 : Vec F S8x128 .f32)
    (x6 : Vec F S3x3x128x128 .bf16) : FVec F S7168x128 .bf16 :=
  mid1 (row i) (k0_pay9 x2 x3) (k0_pay10 x2 x3) (spat i x1)
    (View.ld x0 (Rect.unit (s := S232x226x128) (k0_off2 i) S40x224x128.size (k0_off2_inb i)))
    (View.ld x0 (Rect.unit (s := S232x226x128) (k0_off3 i) S40x224x128.size (k0_off3_inb i)))
    (View.ld x0 (Rect.unit (s := S232x226x128) (k0_off4 i) S40x224x128.size (k0_off4_inb i))) x6

/-- The second layer's activations of a grid point, as stored, from those of the first. -/
def a2 (i : grid0.Coords) (x1 : Vec F S232x224 .f32) (x2 x3 : Vec F S8x128 .f32) (x4 x5 : Vec F S128x8 .f32)
    (x7 : Vec F S3x3x128x128 .f32) (y1 : FVec F S38x224x128 .bf16) : FVec F S36x224x128 .bf16 :=
  store2 (row i) (k0_pay17 x4 x5) (k0_pay18 x4 x5) (k0_pay25 x2 x3) (k0_pay26 x2 x3) (spat i x1) (cols 0 y1) (cols 1 y1) (cols 2 y1) x7

/-- Their 32 central rows. -/
def m2 (i : grid0.Coords) (x1 : Vec F S232x224 .f32) (x2 x3 : Vec F S8x128 .f32) (x4 x5 : Vec F S128x8 .f32)
    (x7 : Vec F S3x3x128x128 .f32) (y1 : FVec F S38x224x128 .bf16) : FVec F S7168x128 .bf16 :=
  k0_pay85 (layer2 (row i) (k0_pay17 x4 x5) (k0_pay18 x4 x5) (k0_pay25 x2 x3) (k0_pay26 x2 x3) (spat i x1)
    (cols 0 y1) (cols 1 y1) (cols 2 y1) x7)

/-- The column of dense masks of the second layer. -/
def d2T (x4 x5 : Vec F S128x8 .f32) : FVec F S128x1 .f32 := k0_pay33 (k0_pay27 x4 x5) (k0_pay28 x4 x5) (k0_pay29 x4 x5)
/-- The column of sparse masks of the second layer. -/
def s2T (x4 x5 : Vec F S128x8 .f32) : FVec F S128x1 .f32 := k0_pay34 (k0_pay27 x4 x5) (k0_pay28 x4 x5) (k0_pay29 x4 x5)

/-- The third layer's activations of a grid point, as stored, from those of the second. -/
def a3 (i : grid0.Coords) (x1 : Vec F S232x224 .f32) (x2 x3 : Vec F S8x128 .f32) (x4 x5 : Vec F S128x8 .f32)
    (x8 : Vec F S3x3x128x128 .f32) (y2 : FVec F S36x224x128 .bf16) : FVec F S34x224x128 .bf16 :=
  store3 (row i) (d2T x4 x5) (s2T x4 x5) (k0_pay41 (k0_pay1 x2 x3)) (k0_pay42 (k0_pay1 x2 x3)) (spat i x1)
    (cols 0 y2) (cols 1 y2) (cols 2 y2) x8

/-- Their 32 central rows. -/
def m3 (i : grid0.Coords) (x1 : Vec F S232x224 .f32) (x2 x3 : Vec F S8x128 .f32) (x4 x5 : Vec F S128x8 .f32)
    (x8 : Vec F S3x3x128x128 .f32) (y2 : FVec F S36x224x128 .bf16) : FVec F S7168x128 .bf16 :=
  mid3 (row i) (d2T x4 x5) (s2T x4 x5) (k0_pay41 (k0_pay1 x2 x3)) (k0_pay42 (k0_pay1 x2 x3)) (spat i x1)
    (cols 0 y2) (cols 1 y2) (cols 2 y2) x8

/-- The block of the result: the fourth layer's activations from those of the third, put beside the central rows
`z1 z2 z3` of the other layers, times the collecting matrix `x10`, plus the bias `x11`. -/
def last (i : grid0.Coords) (x1 : Vec F S232x224 .f32) (x2 x3 : Vec F S8x128 .f32) (x4 x5 : Vec F S128x8 .f32)
    (x9 : Vec F S3x3x128x128 .f32) (x10 : Vec F S512x128 .bf16) (x11 : Vec F S1x128 .f32) (y3 : FVec F S34x224x128 .bf16)
    (z1 z2 z3 : FVec F S7168x128 .bf16) : FVec F S32x224x96 .f32 :=
  k0_pay111 (k0_pay57 (k0_pay1 x2 x3)) (k0_pay58 (k0_pay1 x2 x3)) z1 z2 z3
    (dense4 (k0_pay49 (k0_pay2 x4 x5)) (k0_pay50 (k0_pay2 x4 x5)) (cols 0 y3) (cols 1 y3) (cols 2 y3) x9)
    (sparse4 (k0_pay49 (k0_pay2 x4 x5)) (k0_pay50 (k0_pay2 x4 x5)) (cols 0 y3) (cols 1 y3) (cols 2 y3) x9)
    (k0_pay109 (spat i x1)) (k0_pay110 (row i)) 0#32 x10 x11

/-- The block of the first result one grid point stores. -/
def yBlock (i : grid0.Coords) (x0 : Vec F S232x226x128 .bf16) (x1 : Vec F S232x224 .f32) (x2 x3 : Vec F S8x128 .f32)
    (x4 x5 : Vec F S128x8 .f32) (x6 : Vec F S3x3x128x128 .bf16) (x7 x8 x9 : Vec F S3x3x128x128 .f32)
    (x10 : Vec F S512x128 .bf16) (x11 : Vec F S1x128 .f32) : FVec F S32x224x96 .f32 :=
  last i x1 x2 x3 x4 x5 x9 x10 x11 (a3 i x1 x2 x3 x4 x5 x8 (a2 i x1 x2 x3 x4 x5 x7 (a1 i x0 x1 x2 x3 x6)))
    (m1 i x0 x1 x2 x3 x6) (m2 i x1 x2 x3 x4 x5 x7 (a1 i x0 x1 x2 x3 x6))
    (m3 i x1 x2 x3 x4 x5 x8 (a2 i x1 x2 x3 x4 x5 x7 (a1 i x0 x1 x2 x3 x6)))

/-- The block of channel masks one grid point stores. -/
def cmBlock (x2 x3 : Vec F S8x128 .f32) : FVec F S1x8x128 .f32 :=
  k0_pay59 (k0_pay1 x2 x3) (k0_pay9 x2 x3) (k0_pay10 x2 x3) (k0_pay25 x2 x3) (k0_pay26 x2 x3)

end Cert.KernelIdeal.Block
-- ==== Proof.KernelIdeal.Eval.lean ====
module

public import proofs.«01_k».proof.Proof.KernelIdeal.Body
public import proofs.«01_k».proof.Proof.KernelIdeal.Block
public import Idealize.ShloMosaic.Lib.Pointwise
public import Idealize.ShloMosaic.Lib.WritesUnit

@[expose] public section

set_option maxRecDepth 16384

/-! # The stores of the kernel body are the block functions

What the executed body stores is written with reads of scratch buffers whose earlier contents are unknown. The lemmas here
show that those contents do not matter: the border columns are zeroed first, every other column that is read was stored
before, so each read is `cols k` of the activations stored. -/

noncomputable section

namespace Cert.KernelIdeal.Eval

open Cert.KernelIdeal Cert.KernelIdeal.Gen Cert.KernelIdeal.Body Cert.KernelIdeal.Block
open Idealize.ShloMosaic Idealize.ShloMosaic.TcCoe Idealize.SL.Sem

variable {F : FTy → Type} [FloatOps F]

/-- A block of rows of the scratch buffer whose two border columns hold zeros. -/
def Bordered {n : ℕ} (w : Vec F ⟨3, ![n, 226, 128]⟩ .bf16) : Prop :=
  ∀ (r : Fin n) (c : Fin 226) (l : Fin 128), c.val = 0 ∨ c.val = 225 → w (ix3 r c l) = zero

/-- Storing activations into columns 1 to 224 leaves the border as it was. -/
theorem bordered_update {n : ℕ} (old : Vec F ⟨3, ![n, 226, 128]⟩ .bf16) (x : Vec F ⟨3, ![n, 224, 128]⟩ .bf16)
    (hs : Shape.Slices ⟨3, ![n, 226, 128]⟩ ![0, 1, 0] ⟨3, ![n, 224, 128]⟩) (h : Bordered old) :
    Bordered (updateSlice old x ![0, 1, 0] hs) := by
  intro r c l hc
  unfold updateSlice
  rw [dif_neg]
  · exact h r c l hc
  · intro hin
    have h1 := hin (1 : Fin 3)
    change 1 ≤ c.val ∧ c.val < 1 + 224 at h1
    omega

/-- A stored column read back: column `c + k` of the buffer is column `c` of `cols k x`. -/
theorem update_read {n : ℕ} (k : ℕ) (hk : k ≤ 2) (old : Vec F ⟨3, ![n, 226, 128]⟩ .bf16) (x : Vec F ⟨3, ![n, 224, 128]⟩ .bf16)
    (hs : Shape.Slices ⟨3, ![n, 226, 128]⟩ ![0, 1, 0] ⟨3, ![n, 224, 128]⟩) (h : Bordered old)
    (r : Fin n) (c : Fin 224) (l : Fin 128) :
    updateSlice old x ![0, 1, 0] hs (ix3 r (⟨c.val + k, by omega⟩ : Fin 226) l) = cols k x (ix3 r c l) := by
  unfold cols
  by_cases hc : 1 ≤ c.val + k ∧ c.val + k < 225
  · rw [dif_pos (show 1 ≤ ((ix3 r c l) 1).val + k ∧ ((ix3 r c l) 1).val + k < 225 from hc)]
    unfold updateSlice
    rw [dif_pos]
    · refine congrArg x (funext fun a => ?_)
      fin_cases a
      · exact Fin.ext (Nat.sub_zero _)
      · exact Fin.ext rfl
      · exact Fin.ext (Nat.sub_zero _)
    · intro a
      fin_cases a
      · exact ⟨Nat.zero_le _, by show r.val < 0 + n; omega⟩
      · exact ⟨hc.1, by show c.val + k < 1 + 224; omega⟩
      · exact ⟨Nat.zero_le _, by show l.val < 0 + 128; omega⟩
  · rw [dif_neg (show ¬(1 ≤ ((ix3 r c l) 1).val + k ∧ ((ix3 r c l) 1).val + k < 225) from hc)]
    exact bordered_update old x hs h r _ l (by show c.val + k = 0 ∨ c.val + k = 225; omega)

/-- Reading the buffer right after the first `n` rows were stored, at any place in them. -/
theorem canon_rows {n : ℕ} (hn : n ≤ 38) (inb : ∀ a, (![0, 0, 0] : Fin 3 → ℕ) a + (![n, 226, 128] : Fin 3 → ℕ) a ≤ S38x226x128.size a)
    (w : Vec F ⟨3, ![n, 226, 128]⟩ .bf16) (L : List (View.Piece (Elt F) S38x226x128 .bf16)) (r : Fin n) (c : Fin 226) (l : Fin 128) :
    View.canon ((⟨Rect.unit (s := S38x226x128) ![0, 0, 0] ![n, 226, 128] inb, w⟩ : View.Piece (Elt F) S38x226x128 .bf16) :: L)
      (ix3 (⟨r.val, by omega⟩ : Fin 38) c l) = w (ix3 r c l) := by
  have e : (ix3 (⟨r.val, by omega⟩ : Fin 38) c l : S38x226x128.Idx)
      = (Rect.unit (s := S38x226x128) ![0, 0, 0] ![n, 226, 128] inb).emb (ix3 r c l) := by
    funext a
    apply Fin.ext
    fin_cases a
    · show r.val = 0 + 1 * r.val; omega
    · show c.val = 0 + 1 * c.val; omega
    · show l.val = 0 + 1 * l.val; omega
  rw [e]
  exact View.canon_cons_emb (Rect.unit (s := S38x226x128) ![0, 0, 0] ![n, 226, 128] inb) w L (ix3 r c l)

/-- A read at column offset `k` of the rows just stored. -/
theorem readCov_cols {κ : Kind} {sp : Space} {n : ℕ} (hn : n ≤ 38) (k : ℕ) (hk : k ≤ 2) (v : View sig κ sp S38x226x128 .bf16)
    (inb : ∀ a, (![0, 0, 0] : Fin 3 → ℕ) a + (![n, 226, 128] : Fin 3 → ℕ) a ≤ S38x226x128.size a)
    (inb' : ∀ a, (![0, k, 0] : Fin 3 → ℕ) a + (![n, 224, 128] : Fin 3 → ℕ) a ≤ S38x226x128.size a)
    (old : Vec F ⟨3, ![n, 226, 128]⟩ .bf16) (x : Vec F ⟨3, ![n, 224, 128]⟩ .bf16)
    (hs : Shape.Slices ⟨3, ![n, 226, 128]⟩ ![0, 1, 0] ⟨3, ![n, 224, 128]⟩) (h : Bordered old)
    (L : List (View.Piece (Elt F) S38x226x128 .bf16)) :
    v.readCov ((⟨Rect.unit (s := S38x226x128) ![0, 0, 0] ![n, 226, 128] inb, updateSlice old x ![0, 1, 0] hs⟩ : View.Piece (Elt F) S38x226x128 .bf16) :: L)
      (Rect.unit (s := S38x226x128) ![0, k, 0] ![n, 224, 128] inb').toLoadRect = cols k x := by
  rw [View.readCov_eq_canon']
  funext j
  have e : (Rect.unit (s := S38x226x128) ![0, k, 0] ![n, 224, 128] inb').toLoadRect.idx j
      = (ix3 (⟨(j 0).val, lt_of_lt_of_le (j 0).isLt hn⟩ : Fin 38) (⟨(j 1).val + k, lt_of_lt_of_le (Nat.add_lt_add_right (j 1).isLt k) (by show 224 + k ≤ 226; omega)⟩ : Fin 226) (j 2) : S38x226x128.Idx) := by
    funext a
    apply Fin.ext
    fin_cases a
    · show 0 + 1 * (j 0).val = (j 0).val; omega
    · show k + 1 * (j 1).val = (j 1).val + k; omega
    · show 0 + 1 * (j 2).val = (j 2).val; omega
  show View.canon _ ((Rect.unit (s := S38x226x128) ![0, k, 0] ![n, 224, 128] inb').toLoadRect.idx j) = _
  rw [e]
  refine (canon_rows hn inb _ L (j 0) _ (j 2)).trans ?_
  refine (update_read k hk old x hs h (j 0) (j 1) (j 2)).trans ?_
  exact congrArg (cols k x) (funext fun a => by fin_cases a <;> rfl)

/-- The two border columns, stored one after the other, leave a zero border on every block of first rows. -/
theorem bordered_init {κ : Kind} {sp : Space} {n : ℕ} (hn : n ≤ 38) (v : View sig κ sp S38x226x128 .bf16) (f : v.ty.Contents (Elt F))
    (inb : ∀ a, (![0, 0, 0] : Fin 3 → ℕ) a + (![n, 226, 128] : Fin 3 → ℕ) a ≤ S38x226x128.size a)
    (inb0 : ∀ a, (![0, 0, 0] : Fin 3 → ℕ) a + S38x2x128.size a ≤ S38x226x128.size a)
    (inb1 : ∀ a, (![0, 224, 0] : Fin 3 → ℕ) a + S38x2x128.size a ≤ S38x226x128.size a)
    (o0 o1 : Vec F S38x2x128 .bf16) (z0 z1 : Vec F S38x1x128 .bf16) (hz0 : ∀ j, z0 j = zero) (hz1 : ∀ j, z1 j = zero)
    (hs0 : Shape.Slices S38x2x128 ![0, 0, 0] S38x1x128) (hs1 : Shape.Slices S38x2x128 ![0, 1, 0] S38x1x128) :
    Bordered (n := n) (View.readAt (Elt F) v (Rect.unit (s := S38x226x128) ![0, 0, 0] ![n, 226, 128] inb).toLoadRect
      (v.writes (Elt F) f [⟨Rect.unit ![0, 224, 0] S38x2x128.size inb1, updateSlice o1 z1 ![0, 1, 0] hs1⟩,
        ⟨Rect.unit ![0, 0, 0] S38x2x128.size inb0, updateSlice o0 z0 ![0, 0, 0] hs0⟩])) := by
  intro r c l hc
  have e : (Rect.unit (s := S38x226x128) ![0, 0, 0] ![n, 226, 128] inb).toLoadRect.idx (ix3 r c l)
      = (ix3 (⟨r.val, lt_of_lt_of_le r.isLt hn⟩ : Fin 38) c l : S38x226x128.Idx) := by
    funext a
    apply Fin.ext
    fin_cases a
    · show 0 + 1 * r.val = r.val; omega
    · show 0 + 1 * c.val = c.val; omega
    · show 0 + 1 * l.val = l.val; omega
  rw [View.readAt_eq_ld]
  show v.read (Elt F) _ ((Rect.unit (s := S38x226x128) ![0, 0, 0] ![n, 226, 128] inb).toLoadRect.idx (ix3 r c l)) = _
  rw [e]
  have hr : r.val < 38 := lt_of_lt_of_le r.isLt hn
  rcases hc with hc | hc
  · rw [View.read_writes_cons_unit_of_not_mem v f inb1 _ _ _ rfl (1 : Fin 3) (Or.inl (by show c.val < 224; omega)),
      View.read_writes_cons_unit_of_mem v f inb0 _ _ _ (ix3 (⟨r.val, hr⟩ : Fin 38) (⟨0, by decide⟩ : Fin 2) l) rfl (by
        intro a; fin_cases a
        · exact (Nat.zero_add _).symm
        · exact hc
        · exact (Nat.zero_add _).symm)]
    unfold updateSlice
    rw [dif_pos]
    · exact hz0 _
    · intro a; fin_cases a
      · exact ⟨Nat.zero_le _, by show r.val < 0 + 38; omega⟩
      · exact ⟨Nat.zero_le _, by show 0 < 0 + 1; omega⟩
      · exact ⟨Nat.zero_le _, by show l.val < 0 + 128; omega⟩
  · rw [View.read_writes_cons_unit_of_mem v f inb1 _ _ _ (ix3 (⟨r.val, hr⟩ : Fin 38) (⟨1, by decide⟩ : Fin 2) l) rfl (by
        intro a; fin_cases a
        · exact (Nat.zero_add _).symm
        · exact hc
        · exact (Nat.zero_add _).symm)]
    unfold updateSlice
    rw [dif_pos]
    · exact hz1 _
    · intro a; fin_cases a
      · exact ⟨Nat.zero_le _, by show r.val < 0 + 38; omega⟩
      · exact ⟨by show 1 ≤ 1; omega, by show 1 < 1 + 1; omega⟩
      · exact ⟨Nat.zero_le _, by show l.val < 0 + 128; omega⟩

/-- The first rows of a buffer with a zero border have a zero border. -/
theorem bordered_sub {κ : Kind} {sp : Space} {n : ℕ} (hn : n ≤ 38) (v : View sig κ sp S38x226x128 .bf16)
    (inb : ∀ a, (![0, 0, 0] : Fin 3 → ℕ) a + (![38, 226, 128] : Fin 3 → ℕ) a ≤ S38x226x128.size a)
    (inb' : ∀ a, (![0, 0, 0] : Fin 3 → ℕ) a + (![n, 226, 128] : Fin 3 → ℕ) a ≤ S38x226x128.size a)
    (w : Vec F S38x226x128 .bf16) (h : Bordered (n := 38) w) (L : List (View.Piece (Elt F) S38x226x128 .bf16)) :
    Bordered (n := n) (v.readCov ((⟨Rect.unit (s := S38x226x128) ![0, 0, 0] ![38, 226, 128] inb, w⟩ : View.Piece (Elt F) S38x226x128 .bf16) :: L)
      (Rect.unit (s := S38x226x128) ![0, 0, 0] ![n, 226, 128] inb').toLoadRect) := by
  intro r c l hc
  rw [View.readCov_eq_canon']
  have e : (Rect.unit (s := S38x226x128) ![0, 0, 0] ![n, 226, 128] inb').toLoadRect.idx (ix3 r c l)
      = (ix3 (⟨r.val, lt_of_lt_of_le r.isLt hn⟩ : Fin 38) c l : S38x226x128.Idx) := by
    funext a
    apply Fin.ext
    fin_cases a
    · show 0 + 1 * r.val = r.val; omega
    · show 0 + 1 * c.val = c.val; omega
    · show 0 + 1 * l.val = l.val; omega
  show View.canon _ ((Rect.unit (s := S38x226x128) ![0, 0, 0] ![n, 226, 128] inb').toLoadRect.idx (ix3 r c l)) = _
  rw [e]
  exact (canon_rows (le_refl 38) inb w L ⟨r.val, lt_of_lt_of_le r.isLt hn⟩ c l).trans (h _ c l hc)

end Cert.KernelIdeal.Eval
-- ==== Proof.KernelIdeal.Stores.lean ====
module

public import proofs.«01_k».proof.Proof.KernelIdeal.Eval
public import Idealize.ShloMosaic.Lib.WholeRead

@[expose] public section

set_option maxRecDepth 16384

/-! # The body's stores, block by block

For every grid point, the lists of stores the executed body leaves in the two output windows are one store of `yBlock` and one
of `cmBlock`, whatever the scratch buffers held before. -/

noncomputable section

namespace Cert.KernelIdeal.Eval

open Cert.KernelIdeal Cert.KernelIdeal.Gen Cert.KernelIdeal.Body Cert.KernelIdeal.Block
open Idealize.ShloMosaic Idealize.ShloMosaic.TcCoe Idealize.SL.Sem

variable {F : FTy → Type} [FloatOps F]

/-- A load of a box of a window whose contents are `X` is that box of `X`. -/
theorem load_eq {κ : Kind} {sp : Space} {s : Shape} {e : EltTy} (a : Memref sig κ sp s e) (h : a.IsWhole) (X : Vec F s e) (r : Rect s) :
    View.readAt (Elt F) a.view r.toLoadRect (h.unread X) = View.ld X r :=
  funext fun x => h.readAt_unread X r.toLoadRect x

/-- A load of a whole rank-two window is the window. -/
theorem ld_whole {a b : ℕ} {e : EltTy} (X : Vec F ⟨2, ![a, b]⟩ e) (inb : ∀ x, (![0, 0] : Fin 2 → ℕ) x + (![a, b] : Fin 2 → ℕ) x ≤ (![a, b] : Fin 2 → ℕ) x) :
    View.ld X (Rect.unit (s := ⟨2, ![a, b]⟩) ![0, 0] ![a, b] inb) = X :=
  View.ld_unit_lit inb X (fun x => by fin_cases x <;> rfl)

/-- The border stores are zeros. -/
theorem pay61_zero (j : S38x1x128.Idx) : (k0_pay61 : FVec F S38x1x128 .bf16) j = zero := rfl
theorem pay62_zero (j : S38x1x128.Idx) : (k0_pay62 : FVec F S38x1x128 .bf16) j = zero := rfl
theorem pay63_zero (j : S38x1x128.Idx) : (k0_pay63 k0_pay60 : FVec F S38x1x128 .bf16) j = zero := rfl
theorem pay64_zero (j : S38x1x128.Idx) : (k0_pay64 k0_pay60 : FVec F S38x1x128 .bf16) j = zero := rfl

variable (c : Dev nD) (i : grid0.Coords) (arg1 : Memref sig .tc .vmem S232x226x128 .bf16) (harg1 : arg1.IsWhole) (arg2 : Memref sig .tc .vmem S232x224 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x8 .f32) (harg5 : arg5.IsWhole) (arg6 : Memref sig .tc .vmem S128x8 .f32) (harg6 : arg6.IsWhole) (arg7 : Memref sig .tc .vmem S3x3x128x128 .bf16) (harg7 : arg7.IsWhole) (arg8 : Memref sig .tc .vmem S3x3x128x128 .f32) (harg8 : arg8.IsWhole) (arg9 : Memref sig .tc .vmem S3x3x128x128 .f32) (harg9 : arg9.IsWhole) (arg10 : Memref sig .tc .vmem S3x3x128x128 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S32x224x96 .f32) (harg13 : arg13.IsWhole) (arg14 : Memref sig .tc .vmem S1x8x128 .f32) (harg14 : arg14.IsWhole) (arg15 : Memref sig .tc .vmem S38x226x128 .bf16) (harg15 : arg15.IsWhole) (arg16 : Memref sig .tc .vmem S38x226x128 .bf16) (harg16 : arg16.IsWhole)
  (x0 : Vec F S232x226x128 .bf16) (x1 : Vec F S232x224 .f32) (x2 : Vec F S8x128 .f32) (x3 : Vec F S8x128 .f32) (x4 : Vec F S128x8 .f32) (x5 : Vec F S128x8 .f32) (x6 : Vec F S3x3x128x128 .bf16) (x7 : Vec F S3x3x128x128 .f32) (x8 : Vec F S3x3x128x128 .f32) (x9 : Vec F S3x3x128x128 .f32) (x10 : Vec F S512x128 .bf16) (x11 : Vec F S1x128 .f32)
  (d15 d16 : Vec F S38x226x128 .bf16)

/-- The border the first layer's activations are stored into. -/
theorem border_1 : Bordered (n := 38) (run.sl.old_2 c arg15 harg15 d15) :=
  bordered_init (le_refl 38) arg15.view _ _ _ _ _ _ _ _ pay61_zero pay62_zero _ _

/-- The border the second layer's activations are stored into. -/
theorem border_2 : Bordered (n := 36) (run.sl.old_3 c arg16 harg16 d16) :=
  bordered_init (by decide) arg16.view _ _ _ _ _ _ _ _ pay63_zero pay64_zero _ _

/-- The border the third layer's activations are stored into. -/
theorem border_3 : Bordered (n := 34) (run.sl.old_4 c i arg1 harg1 arg2 harg2 arg3 harg3 arg4 harg4 arg7 harg7 arg15 harg15 x0 x1 x2 x3 x6 d15) :=
  bordered_sub (by decide) arg15.view _ _ _ (bordered_update (n := 38) _ _ _ (border_1 c arg15 harg15 d15)) _

/-- The second layer's read of the first layer's activations at column offset 0. -/
theorem v198_eq : run.sl.v198 c i arg1 harg1 arg2 harg2 arg3 harg3 arg4 harg4 arg7 harg7 arg15 harg15 x0 x1 x2 x3 x6 d15 = cols 0 (a1 i x0 x1 x2 x3 x6) := by
  unfold run.sl.v198
  refine (readCov_cols (n := 38) (le_refl 38) 0 (by decide) arg15.view _ _ _ _ _ (border_1 c arg15 harg15 d15) _).trans ?_
  refine congrArg (cols 0) ?_
  simp only [run.sl.v0, run.sl.r_2, run.sl.r_3, run.sl.r_19, run.sl.r_20, run.sl.r_21, run.sl.r_22, run.sl.r_23, run.sl.r_24, run.sl.r_25, run.sl.r_26, run.sl.r_27, load_eq, ld_whole]
  rfl

/-- The second layer's read of the first layer's activations at column offset 1. -/
theorem v199_eq : run.sl.v199 c i arg1 harg1 arg2 harg2 arg3 harg3 arg4 harg4 arg7 harg7 arg15 harg15 x0 x1 x2 x3 x6 d15 = cols 1 (a1 i x0 x1 x2 x3 x6) := by
  unfold run.sl.v199
  refine (readCov_cols (n := 38) (le_refl 38) 1 (by decide) arg15.view _ _ _ _ _ (border_1 c arg15 harg15 d15) _).trans ?_
  refine congrArg (cols 1) ?_
  simp only [run.sl.v0, run.sl.r_2, run.sl.r_3, run.sl.r_19, run.sl.r_20, run.sl.r_21, run.sl.r_22, run.sl.r_23, run.sl.r_24, run.sl.r_25, run.sl.r_26, run.sl.r_27, load_eq, ld_whole]
  rfl

/-- The second layer's read of the first layer's activations at column offset 2. -/
theorem v200_eq : run.sl.v200 c i arg1 harg1 arg2 harg2 arg3 harg3 arg4 harg4 arg7 harg7 arg15 harg15 x0 x1 x2 x3 x6 d15 = cols 2 (a1 i x0 x1 x2 x3 x6) := by
  unfold run.sl.v200
  refine (readCov_cols (n := 38) (le_refl 38) 2 (by decide) arg15.view _ _ _ _ _ (border_1 c arg15 harg15 d15) _).trans ?_
  refine congrArg (cols 2) ?_
  simp only [run.sl.v0, run.sl.r_2, run.sl.r_3, run.sl.r_19, run.sl.r_20, run.sl.r_21, run.sl.r_22, run.sl.r_23, run.sl.r_24, run.sl.r_25, run.sl.r_26, run.sl.r_27, load_eq, ld_whole]
  rfl

/-- The third layer's read of the second layer's activations at column offset 0. -/
theorem v359_eq : run.sl.v359 c i arg1 harg1 arg2 harg2 arg3 harg3 arg4 harg4 arg5 harg5 arg6 harg6 arg7 harg7 arg8 harg8 arg15 harg15 arg16 harg16 x0 x1 x2 x3 x4 x5 x6 x7 d15 d16 = cols 0 (a2 i x1 x2 x3 x4 x5 x7 (a1 i x0 x1 x2 x3 x6)) := by
  unfold run.sl.v359
  refine (readCov_cols (n := 36) (by decide) 0 (by decide) arg16.view _ _ _ _ _ (border_2 c arg16 harg16 d16) _).trans ?_
  refine congrArg (cols 0) ?_
  simp only [run.sl.v0, run.sl.r_4, run.sl.r_5, run.sl.r_6, run.sl.r_7, run.sl.r_19, run.sl.r_29, run.sl.r_30, run.sl.r_31, run.sl.r_32, run.sl.r_33, run.sl.r_34, run.sl.r_36, v198_eq, v199_eq, v200_eq, load_eq, ld_whole]
  rfl

/-- The third layer's read of the second layer's activations at column offset 1. -/
theorem v360_eq : run.sl.v360 c i arg1 harg1 arg2 harg2 arg3 harg3 arg4 harg4 arg5 harg5 arg6 harg6 arg7 harg7 arg8 harg8 arg15 harg15 arg16 harg16 x0 x1 x2 x3 x4 x5 x6 x7 d15 d16 = cols 1 (a2 i x1 x2 x3 x4 x5 x7 (a1 i x0 x1 x2 x3 x6)) := by
  unfold run.sl.v360
  refine (readCov_cols (n := 36) (by decide) 1 (by decide) arg16.view _ _ _ _ _ (border_2 c arg16 harg16 d16) _).trans ?_
  refine congrArg (cols 1) ?_
  simp only [run.sl.v0, run.sl.r_4, run.sl.r_5, run.sl.r_6, run.sl.r_7, run.sl.r_19, run.sl.r_29, run.sl.r_30, run.sl.r_31, run.sl.r_32, run.sl.r_33, run.sl.r_34, run.sl.r_36, v198_eq, v199_eq, v200_eq, load_eq, ld_whole]
  rfl

/-- The third layer's read of the second layer's activations at column offset 2. -/
theorem v361_eq : run.sl.v361 c i arg1 harg1 arg2 harg2 arg3 harg3 arg4 harg4 arg5 harg5 arg6 harg6 arg7 harg7 arg8 harg8 arg15 harg15 arg16 harg16 x0 x1 x2 x3 x4 x5 x6 x7 d15 d16 = cols 2 (a2 i x1 x2 x3 x4 x5 x7 (a1 i x0 x1 x2 x3 x6)) := by
  unfold run.sl.v361
  refine (readCov_cols (n := 36) (by decide) 2 (by decide) arg16.view _ _ _ _ _ (border_2 c arg16 harg16 d16) _).trans ?_
  refine congrArg (cols 2) ?_
  simp only [run.sl.v0, run.sl.r_4, run.sl.r_5, run.sl.r_6, run.sl.r_7, run.sl.r_19, run.sl.r_29, run.sl.r_30, run.sl.r_31, run.sl.r_32, run.sl.r_33, run.sl.r_34, run.sl.r_36, v198_eq, v199_eq, v200_eq, load_eq, ld_whole]
  rfl

/-- The fourth layer's read of the third layer's activations at column offset 0. -/
theorem v520_eq : run.sl.v520 c i arg1 harg1 arg2 harg2 arg3 harg3 arg4 harg4 arg5 harg5 arg6 harg6 arg7 harg7 arg8 harg8 arg9 harg9 arg15 harg15 arg16 harg16 x0 x1 x2 x3 x4 x5 x6 x7 x8 d15 d16
    = cols 0 (a3 i x1 x2 x3 x4 x5 x8 (a2 i x1 x2 x3 x4 x5 x7 (a1 i x0 x1 x2 x3 x6))) := by
  unfold run.sl.v520
  refine (readCov_cols (n := 34) (by decide) 0 (by decide) arg15.view _ _ _ _ _ (border_3 c i arg1 harg1 arg2 harg2 arg3 harg3 arg4 harg4 arg7 harg7 arg15 harg15 x0 x1 x2 x3 x6 d15) _).trans ?_
  refine congrArg (cols 0) ?_
  simp only [run.sl.v0, run.sl.r, run.sl.r_8, run.sl.r_9, run.sl.r_10, run.sl.r_11, run.sl.r_12, run.sl.r_13, run.sl.r_14, run.sl.r_19, run.sl.r_38, run.sl.r_39, run.sl.r_40, run.sl.r_41, run.sl.r_42, run.sl.r_43, run.sl.r_44, run.sl.r_45, run.sl.r_46, run.sl.r_47, run.sl.r_48, v359_eq, v360_eq, v361_eq, load_eq, ld_whole]
  rfl

/-- The fourth layer's read of the third layer's activations at column offset 1. -/
theorem v521_eq : run.sl.v521 c i arg1 harg1 arg2 harg2 arg3 harg3 arg4 harg4 arg5 harg5 arg6 harg6 arg7 harg7 arg8 harg8 arg9 harg9 arg15 harg15 arg16 harg16 x0 x1 x2 x3 x4 x5 x6 x7 x8 d15 d16
    = cols 1 (a3 i x1 x2 x3 x4 x5 x8 (a2 i x1 x2 x3 x4 x5 x7 (a1 i x0 x1 x2 x3 x6))) := by
  unfold run.sl.v521
  refine (readCov_cols (n := 34) (by decide) 1 (by decide) arg15.view _ _ _ _ _ (border_3 c i arg1 harg1 arg2 harg2 arg3 harg3 arg4 harg4 arg7 harg7 arg15 harg15 x0 x1 x2 x3 x6 d15) _).trans ?_
  refine congrArg (cols 1) ?_
  simp only [run.sl.v0, run.sl.r, run.sl.r_8, run.sl.r_9, run.sl.r_10, run.sl.r_11, run.sl.r_12, run.sl.r_13, run.sl.r_14, run.sl.r_19, run.sl.r_38, run.sl.r_39, run.sl.r_40, run.sl.r_41, run.sl.r_42, run.sl.r_43, run.sl.r_44, run.sl.r_45, run.sl.r_46, run.sl.r_47, run.sl.r_48, v359_eq, v360_eq, v361_eq, load_eq, ld_whole]
  rfl

/-- The fourth layer's read of the third layer's activations at column offset 2. -/
theorem v522_eq : run.sl.v522 c i arg1 harg1 arg2 harg2 arg3 harg3 arg4 harg4 arg5 harg5 arg6 harg6 arg7 harg7 arg8 harg8 arg9 harg9 arg15 harg15 arg16 harg16 x0 x1 x2 x3 x4 x5 x6 x7 x8 d15 d16
    = cols 2 (a3 i x1 x2 x3 x4 x5 x8 (a2 i x1 x2 x3 x4 x5 x7 (a1 i x0 x1 x2 x3 x6))) := by
  unfold run.sl.v522
  refine (readCov_cols (n := 34) (by decide) 2 (by decide) arg15.view _ _ _ _ _ (border_3 c i arg1 harg1 arg2 harg2 arg3 harg3 arg4 harg4 arg7 harg7 arg15 harg15 x0 x1 x2 x3 x6 d15) _).trans ?_
  refine congrArg (cols 2) ?_
  simp only [run.sl.v0, run.sl.r, run.sl.r_8, run.sl.r_9, run.sl.r_10, run.sl.r_11, run.sl.r_12, run.sl.r_13, run.sl.r_14, run.sl.r_19, run.sl.r_38, run.sl.r_39, run.sl.r_40, run.sl.r_41, run.sl.r_42, run.sl.r_43, run.sl.r_44, run.sl.r_45, run.sl.r_46, run.sl.r_47, run.sl.r_48, v359_eq, v360_eq, v361_eq, load_eq, ld_whole]
  rfl

/-- The store into the first output window. -/
theorem run_y : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 d15 d16).1
    = [⟨Rect.unit ![0, 0, 0] S32x224x96.size inb_S32x224x96_S32x224x96_0_0_0, yBlock i x0 x1 x2 x3 x4 x5 x6 x7 x8 x9 x10 x11⟩] := by
  unfold run
  refine congrArg (fun z => [(⟨Rect.unit ![0, 0, 0] S32x224x96.size inb_S32x224x96_S32x224x96_0_0_0, z⟩ : View.Piece (Elt F) S32x224x96 .f32)]) ?_
  simp only [run.sl.v0, run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.r_31, run.sl.r_32, run.sl.r_33, run.sl.r_34, run.sl.r_35, run.sl.r_36, run.sl.r_37, run.sl.r_38, run.sl.r_39, run.sl.r_40, run.sl.r_41, run.sl.r_42, run.sl.r_43, run.sl.r_44, run.sl.r_45, run.sl.r_46, run.sl.r_47, run.sl.r_48, run.sl.r_49, run.sl.r_50, run.sl.r_51, run.sl.r_52, run.sl.r_53, run.sl.r_54, run.sl.r_55, run.sl.r_56, run.sl.r_57, run.sl.r_58, run.sl.r_59, v198_eq, v199_eq, v200_eq, v359_eq, v360_eq, v361_eq, v520_eq, v521_eq, v522_eq, load_eq, ld_whole]
  rfl

/-- The store into the second output window. -/
theorem run_cm : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 d15 d16).2.1
    = [⟨Rect.unit ![0, 0, 0] S1x8x128.size inb_S1x8x128_S1x8x128_0_0_0, cmBlock x2 x3⟩] := by
  unfold run
  refine congrArg (fun z => [(⟨Rect.unit ![0, 0, 0] S1x8x128.size inb_S1x8x128_S1x8x128_0_0_0, z⟩ : View.Piece (Elt F) S1x8x128 .f32)]) ?_
  simp only [run.sl.r, run.sl.r_2, run.sl.r_3, run.sl.r_6, run.sl.r_7, load_eq, ld_whole]
  rfl

end Cert.KernelIdeal.Eval
-- ==== Proof.KernelIdeal.Run.lean ====
module

public import proofs.«01_k».proof.Proof.KernelIdeal.Stores
public import Idealize.ShloMosaic.Lib.Claim

@[expose] public section

set_option maxRecDepth 16384

/-! # The launch

The proof data of the one pipeline, the obligation of its body and the run of the whole program: every execution ends with
the two result arrays assembled from `yBlock` and `cmBlock` of the blocks read, with the arguments unchanged and with every
semaphore counter at zero. -/

noncomputable section

namespace Cert.KernelIdeal.Run

open Cert.KernelIdeal Cert.KernelIdeal.Gen Cert.KernelIdeal.Body Cert.KernelIdeal.Block Cert.KernelIdeal.Eval
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the first result that grid point `t` stores. -/
def yAt (c : Dev nD) (t : Fin cfg0.N) : Vec F S32x224x96 .f32 :=
  yBlock (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The block of channel masks that grid point `t` stores. -/
def cmAt (c : Dev nD) (t : Fin cfg0.N) : Vec F S1x8x128 .f32 := cmBlock (iblk m c 2 t) (iblk m c 3 t)

/-- The proof data of the pipeline: the arrays as the region finds them; after the body each input's buffer still holds its
block and the outputs' buffers hold `yAt` and `cmAt`; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yAt m c t
    | ⟨13, _⟩ => cmAt m c t
  Φ _ := Pipeline.ΦA spec0 c
  q _ := fullShare
  owed _ := 0

/-- Each array is what the region finds. -/
theorem A_eq (c : Dev nD) (w : Fin cfg0.W) : (dats m 0 c).A w = V m c (Pipeline.arrRef spec0 w) := by
  dsimp only [dats]

/-- Each window's buffer after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = yAt m c t := by dsimp only [dats]
theorem after0_13 (c : Dev nD) (t : Fin cfg0.N) : (dats m 0 c).after 13 t = cmAt m c t := by dsimp only [dats]

/-- Each input's buffer before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The two scratch buffers. -/
abbrev sc0 : Memref sig .tc .vmem S38x226x128 .bf16 := Memref.whole cc0_scratch0
abbrev sc1 : Memref sig .tc .vmem S38x226x128 .bf16 := Memref.whole cc0_scratch1

/-- The pipeline's invariant: both scratch buffers at some contents, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- One store of a whole rank-three buffer leaves what was stored. -/
theorem read_store {κ : Kind} {sp : Space} {a b n : ℕ} {e : EltTy} (v : View sig κ sp ⟨3, ![a, b, n]⟩ e) (f : v.ty.Contents (Elt F))
    (inb : ∀ x, (![0, 0, 0] : Fin 3 → ℕ) x + (![a, b, n] : Fin 3 → ℕ) x ≤ (![a, b, n] : Fin 3 → ℕ) x) (w : Vec F ⟨3, ![a, b, n]⟩ e) :
    v.read (Elt F) (v.writes (Elt F) f [⟨Rect.unit (s := ⟨3, ![a, b, n]⟩) ![0, 0, 0] ![a, b, n] inb, w⟩]) = w :=
  funext fun y => View.read_writes_cons_unit_of_mem v f inb w [] y y rfl fun x => by
    fin_cases x <;> exact (Nat.zero_add _).symm

/-- The body's triple: from the inputs' blocks, whatever the output buffers and the scratch buffers hold, it leaves the inputs
as they were and the output buffers at `yBlock` and `cmBlock`. -/
theorem triple (c : Dev nD) (i : grid0.Coords) (arg1 : Memref sig .tc .vmem S232x226x128 .bf16) (harg1 : arg1.IsWhole) (arg2 : Memref sig .tc .vmem S232x224 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x8 .f32) (harg5 : arg5.IsWhole) (arg6 : Memref sig .tc .vmem S128x8 .f32) (harg6 : arg6.IsWhole) (arg7 : Memref sig .tc .vmem S3x3x128x128 .bf16) (harg7 : arg7.IsWhole) (arg8 : Memref sig .tc .vmem S3x3x128x128 .f32) (harg8 : arg8.IsWhole) (arg9 : Memref sig .tc .vmem S3x3x128x128 .f32) (harg9 : arg9.IsWhole) (arg10 : Memref sig .tc .vmem S3x3x128x128 .f32) (harg10 : arg10.IsWhole) (arg11 : Memref sig .tc .vmem S512x128 .bf16) (harg11 : arg11.IsWhole) (arg12 : Memref sig .tc .vmem S1x128 .f32) (harg12 : arg12.IsWhole) (arg13 : Memref sig .tc .vmem S32x224x96 .f32) (harg13 : arg13.IsWhole) (arg14 : Memref sig .tc .vmem S1x8x128 .f32) (harg14 : arg14.IsWhole) (arg15 : Memref sig .tc .vmem S38x226x128 .bf16) (harg15 : arg15.IsWhole) (arg16 : Memref sig .tc .vmem S38x226x128 .bf16) (harg16 : arg16.IsWhole)
  (x0 : Vec F S232x226x128 .bf16) (x1 : Vec F S232x224 .f32) (x2 : Vec F S8x128 .f32) (x3 : Vec F S8x128 .f32) (x4 : Vec F S128x8 .f32) (x5 : Vec F S128x8 .f32) (x6 : Vec F S3x3x128x128 .bf16) (x7 : Vec F S3x3x128x128 .f32) (x8 : Vec F S3x3x128x128 .f32) (x9 : Vec F S3x3x128x128 .f32) (x10 : Vec F S512x128 .bf16) (x11 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (yBlock i x0 x1 x2 x3 x4 x5 x6 x7 x8 x9 x10 x11) ∗ owns (c : Thread nD τ) arg14 fullShare (cmBlock x2 x3)
          ∗ (∃ d, owns (c : Thread nD τ) arg15 fullShare d) ∗ (∃ d, owns (c : Thread nD τ) arg16 fullShare d)) -∗ K ⟨⟩))
      ⊢ wp frame (wpE (defs₀ (F := F)) Variants.none c none) E (cc0__smb_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, ⟨%e0, HS0⟩, ⟨%e1, HS1⟩, Hk⟩
  have hy := run_y c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 e0 e1
  have hc := run_cm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 e0 e1
  revert hy hc
  generalize run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 e0 e1 = R
  intro hy hc
  obtain ⟨L12, L13, u, h⟩ := R
  change L12 = _ at hy
  change L13 = _ at hc
  subst hy hc
  replace h := h E K
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, ⟨%f12, H12⟩, ⟨%f13, H13⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact read_store _ _ _ _
  isplitl [H13]
  · unfold owns; iexists _; isplitr
    swap; · iexact H13
    ipureintro; exact read_store _ _ _ _
  isplitl [HS0]; · iexact HS0
  iexact HS1

/-- The body at any point: from the inputs' blocks it leaves the inputs as they were and stores the two output blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (triple c (grid0.coords t) _ _ _ _ _ _ _ _ _ _ _ _ _ _ _ _ _ _ _ _ _ _ _ _ _ _ _ _ sc0 (Memref.isWhole_whole _) sc1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The obligation of the pipeline's body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- Every execution of the program ends, the arrays at what the proof data say, every other buffer at what the host operations
leave in it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Run
-- ==== Proof.KernelIdeal.Layers.lean ====
module

public import proofs.«01_k».proof.Proof.KernelIdeal.Block
public import Idealize.ShloMosaic.Lib.Pointwise

@[expose] public section

set_option maxRecDepth 16384

/-! # The layers of one grid point, at one pixel and channel

Activations, weights and masks are read as functions of natural numbers: `X h w x` is the activation in row `h`, column `w`
and channel `x` of an image that is padded by four rows above and one column on the left. Row `r` of what the layers of a
grid point hold is row `G + r` of that image for a number `G` that depends on the grid point and the layer. -/

noncomputable section

namespace Cert.KernelIdeal.Layers

open Cert.KernelIdeal Cert.KernelIdeal.Gen Cert.KernelIdeal.Block
open Idealize.ShloMosaic Idealize.ShloMosaic.TcCoe Idealize.SL.Sem

/-- An element of one tap's weight matrix. -/
theorem tap_apply {φ : EltTy} (w : Vec Ideal S3x3x128x128 φ) (a b : ℕ) (ha : a < 3) (hb : b < 3) (k c : Fin 128) :
    tap w a b ha hb (ix4 0 0 k c) = w (ix4 (⟨a, ha⟩ : Fin 3) (⟨b, hb⟩ : Fin 3) k c) := by
  unfold tap View.ld
  congr 1
  funext x
  apply Fin.ext
  match x with
  | ⟨0, _⟩ => show a + 1 * 0 = a; omega
  | ⟨1, _⟩ => show b + 1 * 0 = b; omega
  | ⟨2, _⟩ => show 0 + 1 * k.val = k.val; omega
  | ⟨3, _⟩ => show 0 + 1 * c.val = c.val; omega

/-- The product with one tap's weight matrix: the sum over the input channels. -/
def dot (x : ℕ → EReal) (w : ℕ → EReal) : EReal := ∑ i : Fin 128, x i * w i

/-- The 3 × 3 convolution at the pixel whose upper left neighbour is `(h, w)`. -/
def conv (X : ℕ → ℕ → ℕ → EReal) (W : ℕ → ℕ → ℕ → ℕ → EReal) (h w k : ℕ) : EReal :=
  dot (X h w) (W 0 0 · k) + dot (X h (w + 1)) (W 0 1 · k) + dot (X h (w + 2)) (W 0 2 · k)
    + dot (X (h + 1) w) (W 1 0 · k) + dot (X (h + 1) (w + 1)) (W 1 1 · k) + dot (X (h + 1) (w + 2)) (W 1 2 · k)
    + dot (X (h + 2) w) (W 2 0 · k) + dot (X (h + 2) (w + 1)) (W 2 1 · k) + dot (X (h + 2) (w + 2)) (W 2 2 · k)

/-- One where row `r` of the `ℓ`-th layer of the block that begins in row `g` lies in the image, zero elsewhere: the number the
kernel computes. -/
def inside (g ℓ : BitVec 32) (r : ℕ) : EReal :=
  (FloatOps.sitofp FTy.f32 (BitVec.setWidth 32
    (IntOp.andi (IntOp.cmpi CmpIPredicate.sge (IntOp.addi (BitVec.ofNat 32 r) (Scalar.addi (Scalar.subi g 4#32) ℓ)) 0#32)
      (IntOp.cmpi CmpIPredicate.slt (IntOp.addi (BitVec.ofNat 32 r) (Scalar.addi (Scalar.subi g 4#32) ℓ)) 224#32))) : Ideal .f32)

variable (X : ℕ → ℕ → ℕ → EReal) (W : ℕ → ℕ → ℕ → ℕ → EReal) (P : ℕ → ℕ → EReal) (D S Dp Sp : ℕ → EReal) (G : ℕ)

/-- The first layer at a pixel. -/
theorem layer1_apply (g : BitVec 32) (d s : FVec Ideal S1x128 .f32) (sp : FVec Ideal S40x224 .f32)
    (f0 f1 f2 : Vec Ideal S40x224x128 .bf16) (w : Vec Ideal S3x3x128x128 .bf16)
    (hd : ∀ k : Fin 128, d (ix2 0 k) = D k) (hs : ∀ k : Fin 128, s (ix2 0 k) = S k)
    (hsp : ∀ (r : Fin 40) (c : Fin 224), sp (ix2 r c) = P (G + r) c)
    (h0 : ∀ (r : Fin 40) (c : Fin 224) (k : Fin 128), f0 (ix3 r c k) = X (G + r) c k)
    (h1 : ∀ (r : Fin 40) (c : Fin 224) (k : Fin 128), f1 (ix3 r c k) = X (G + r) (c + 1) k)
    (h2 : ∀ (r : Fin 40) (c : Fin 224) (k : Fin 128), f2 (ix3 r c k) = X (G + r) (c + 2) k)
    (hw : ∀ (a b : Fin 3) (k c : Fin 128), w (ix4 a b k c) = W a b k c)
    (r : Fin 38) (c : Fin 224) (k : Fin 128) :
    (layer1 g d s sp f0 f1 f2 w : FVec Ideal S38x224x128 .bf16) (ix3 r c k)
      = max (conv X W (G + r) c k * (P (G + r + 1) c * S k + inside g 1#32 r * D k)) (0 : EReal) := by
  pointwise [layer1, acc1, k0_pay74, k0_pay75, k0_pay71, k0_pay69, k0_pay66, k0_pay67, k0_pay68, k0_pay70, k0_pay72, k0_pay73]
  simp only [tap_apply, h0, h1, h2, hw, hd, hs, hsp, conv, dot, inside, add_assoc, Nat.add_comm 1 (r : ℕ), Nat.add_comm 2 (r : ℕ)]

theorem mid1_apply (g : BitVec 32) (d s : FVec Ideal S1x128 .f32) (sp : FVec Ideal S40x224 .f32)
    (f0 f1 f2 : Vec Ideal S40x224x128 .bf16) (w : Vec Ideal S3x3x128x128 .bf16) (j : Fin 7168) (k : Fin 128) :
    (mid1 g d s sp f0 f1 f2 w : FVec Ideal S7168x128 .bf16) (ix2 j k)
      = (layer1 g d s sp f0 f1 f2 w : FVec Ideal S38x224x128 .bf16)
          (ix3 (⟨3 + j.val / 224, by omega⟩ : Fin 38) (⟨j.val % 224, by omega⟩ : Fin 224) k) := by
  pointwise [mid1, layer1, k0_pay75, k0_pay76]

/-- What a layer after the first computes. -/
def next (i : EReal) (h w k : ℕ) : EReal :=
  max (conv X (fun a b x k => W a b x k * Dp x) h w k * (P (h + 1) w * S k + i * D k)
    + conv X (fun a b x k => W a b x k * Sp x) h w k * P (h + 1) w) 0

section
variable (g : BitVec 32) (dT sT : FVec Ideal S128x1 .f32) (d s : FVec Ideal S1x128 .f32) (sp : FVec Ideal S40x224 .f32)
    (w : Vec Ideal S3x3x128x128 .f32)
    (hdT : ∀ k : Fin 128, dT (ix2 k 0) = Dp k) (hsT : ∀ k : Fin 128, sT (ix2 k 0) = Sp k)
    (hd : ∀ k : Fin 128, d (ix2 0 k) = D k) (hs : ∀ k : Fin 128, s (ix2 0 k) = S k)
    (hw : ∀ (a b : Fin 3) (k c : Fin 128), w (ix4 a b k c) = W a b k c)
include hdT hsT hd hs hw

/-- The second layer at a pixel. -/
theorem layer2_apply (hsp : ∀ (r : Fin 40) (c : Fin 224), sp (ix2 r c) = P (G + r) c) (p0 p1 p2 : Vec Ideal S38x224x128 .bf16)
    (h0 : ∀ (r : Fin 38) (c : Fin 224) (k : Fin 128), p0 (ix3 r c k) = X (G + r + 1) c k)
    (h1 : ∀ (r : Fin 38) (c : Fin 224) (k : Fin 128), p1 (ix3 r c k) = X (G + r + 1) (c + 1) k)
    (h2 : ∀ (r : Fin 38) (c : Fin 224) (k : Fin 128), p2 (ix3 r c k) = X (G + r + 1) (c + 2) k)
    (r : Fin 36) (c : Fin 224) (k : Fin 128) :
    (layer2 g dT sT d s sp p0 p1 p2 w : FVec Ideal S36x224x128 .f32) (ix3 r c k)
      = next X W P D S Dp Sp (inside g 2#32 r) (G + r + 1) c k := by
  pointwise [layer2, acc2, k0_pay77, k0_pay78, k0_pay79, k0_pay80, k0_pay81, k0_pay82, k0_pay83]
  simp only [tap_apply, h0, h1, h2, hw, hd, hs, hdT, hsT, hsp, next, conv, dot, inside, add_assoc, Nat.add_comm 1 (r : ℕ), Nat.add_comm 2 (r : ℕ), Nat.reduceAdd]

/-- The third layer at a pixel. -/
theorem layer3_apply (hsp : ∀ (r : Fin 40) (c : Fin 224), sp (ix2 r c) = P (G + r) c) (p0 p1 p2 : Vec Ideal S36x224x128 .bf16)
    (h0 : ∀ (r : Fin 36) (c : Fin 224) (k : Fin 128), p0 (ix3 r c k) = X (G + r + 2) c k)
    (h1 : ∀ (r : Fin 36) (c : Fin 224) (k : Fin 128), p1 (ix3 r c k) = X (G + r + 2) (c + 1) k)
    (h2 : ∀ (r : Fin 36) (c : Fin 224) (k : Fin 128), p2 (ix3 r c k) = X (G + r + 2) (c + 2) k)
    (r : Fin 34) (c : Fin 224) (k : Fin 128) :
    (store3 g dT sT d s sp p0 p1 p2 w : FVec Ideal S34x224x128 .bf16) (ix3 r c k)
      = next X W P D S Dp Sp (inside g 3#32 r) (G + r + 2) c k := by
  pointwise [store3, dense3, sparse3, acc3, k0_pay86, k0_pay87, k0_pay88, k0_pay89, k0_pay90, k0_pay91, k0_pay92, k0_pay93,
    k0_pay94, k0_pay95, k0_pay96, k0_pay97, k0_pay98, k0_pay99]
  simp only [tap_apply, h0, h1, h2, hw, hd, hs, hdT, hsT, hsp, next, conv, dot, inside, add_assoc, Nat.add_comm 1 (r : ℕ),
    Nat.add_comm 2 (r : ℕ), Nat.add_comm 3 (r : ℕ), Nat.reduceAdd]

/-- The fourth layer's activations, from the two convolutions and the coefficients as the kernel computes them. -/
def out4 (p0 p1 p2 : Vec Ideal S34x224x128 .bf16) : FVec Ideal S32x224x128 .f32 := fun j =>
  max ((dense4 dT sT p0 p1 p2 w : FVec Ideal S32x224x128 .f32) j
      * (sp (ix2 (⟨4 + (j 0).val, by have := (j 0).isLt; change _ < 32 at this; omega⟩ : Fin 40) (j 1 : Fin 224)) * s (ix2 0 (j 2 : Fin 128))
        + inside g 4#32 (j 0).val * d (ix2 0 (j 2 : Fin 128)))
    + (sparse4 dT sT p0 p1 p2 w : FVec Ideal S32x224x128 .f32) j
      * sp (ix2 (⟨4 + (j 0).val, by have := (j 0).isLt; change _ < 32 at this; omega⟩ : Fin 40) (j 1 : Fin 224))) (0 : EReal)

/-- The fourth layer at a pixel. -/
theorem out4_apply (hsp : ∀ (r : Fin 40) (c : Fin 224), sp (ix2 r c) = P (G + r) c) (p0 p1 p2 : Vec Ideal S34x224x128 .bf16)
    (h0 : ∀ (r : Fin 34) (c : Fin 224) (k : Fin 128), p0 (ix3 r c k) = X (G + r + 3) c k)
    (h1 : ∀ (r : Fin 34) (c : Fin 224) (k : Fin 128), p1 (ix3 r c k) = X (G + r + 3) (c + 1) k)
    (h2 : ∀ (r : Fin 34) (c : Fin 224) (k : Fin 128), p2 (ix3 r c k) = X (G + r + 3) (c + 2) k)
    (r : Fin 32) (c : Fin 224) (k : Fin 128) :
    out4 g dT sT d s sp w p0 p1 p2 (ix3 r c k) = next X W P D S Dp Sp (inside g 4#32 r) (G + r + 3) c k := by
  pointwise [out4, dense4, sparse4, acc4, k0_pay101, k0_pay102, k0_pay103, k0_pay104, k0_pay105, k0_pay106, k0_pay107, k0_pay108]
  simp only [tap_apply, h0, h1, h2, hw, hd, hs, hdT, hsT, hsp, next, conv, dot, inside, add_assoc, Nat.add_comm 1 (r : ℕ),
    Nat.add_comm 2 (r : ℕ), Nat.add_comm 3 (r : ℕ), Nat.add_comm 4 (r : ℕ), Nat.reduceAdd]

end

theorem store2_apply (g : BitVec 32) (dT sT : FVec Ideal S128x1 .f32) (d s : FVec Ideal S1x128 .f32) (sp : FVec Ideal S40x224 .f32)
    (w : Vec Ideal S3x3x128x128 .f32) (p0 p1 p2 : Vec Ideal S38x224x128 .bf16) (r : Fin 36) (c : Fin 224) (k : Fin 128) :
    (store2 g dT sT d s sp p0 p1 p2 w : FVec Ideal S36x224x128 .bf16) (ix3 r c k)
      = (layer2 g dT sT d s sp p0 p1 p2 w : FVec Ideal S36x224x128 .f32) (ix3 r c k) := by
  pointwise [store2, layer2, k0_pay84]

theorem mid2_apply (y : FVec Ideal S36x224x128 .f32) (j : Fin 7168) (k : Fin 128) :
    (k0_pay85 y : FVec Ideal S7168x128 .bf16) (ix2 j k)
      = y (ix3 (⟨2 + j.val / 224, by omega⟩ : Fin 36) (⟨j.val % 224, by omega⟩ : Fin 224) k) := by
  pointwise [k0_pay85]

theorem mid3_apply (g : BitVec 32) (dT sT : FVec Ideal S128x1 .f32) (d s : FVec Ideal S1x128 .f32) (sp : FVec Ideal S40x224 .f32)
    (w : Vec Ideal S3x3x128x128 .f32) (p0 p1 p2 : Vec Ideal S36x224x128 .bf16) (j : Fin 7168) (k : Fin 128) :
    (mid3 g dT sT d s sp p0 p1 p2 w : FVec Ideal S7168x128 .bf16) (ix2 j k)
      = (store3 g dT sT d s sp p0 p1 p2 w : FVec Ideal S34x224x128 .bf16)
          (ix3 (⟨1 + j.val / 224, by omega⟩ : Fin 34) (⟨j.val % 224, by omega⟩ : Fin 224) k) := by
  pointwise [mid3, store3, k0_pay99, k0_pay100]

/-- A sum over 512 numbers as four sums over 128. -/
theorem sum_four (f : ℕ → EReal) : ∑ x : Fin 512, f x
    = ∑ x : Fin 128, f x + ∑ x : Fin 128, f (128 + x) + ∑ x : Fin 128, f (256 + x) + ∑ x : Fin 128, f (384 + x) := by
  rw [Fin.sum_univ_eq_sum_range f 512, show 512 = 128 + (128 + (128 + 128)) from rfl, Finset.sum_range_add, Finset.sum_range_add,
    Finset.sum_range_add]
  simp only [← Fin.sum_univ_eq_sum_range, ← add_assoc, Nat.reduceAdd]

theorem last_apply (i : grid0.Coords) (x1 : Vec Ideal S232x224 .f32) (x2 x3 : Vec Ideal S8x128 .f32) (x4 x5 : Vec Ideal S128x8 .f32)
    (x9 : Vec Ideal S3x3x128x128 .f32) (x10 : Vec Ideal S512x128 .bf16) (x11 : Vec Ideal S1x128 .f32) (y3 : FVec Ideal S34x224x128 .bf16)
    (z1 z2 z3 : FVec Ideal S7168x128 .bf16) (Z1 Z2 Z3 Z4 : ℕ → ℕ → ℕ → EReal) (C : ℕ → ℕ → EReal) (B : ℕ → EReal)
    (h1 : ∀ (r : Fin 32) (c : Fin 224) (k : Fin 128), z1 (ix2 (⟨r.val * 224 + c.val, by omega⟩ : Fin 7168) k) = Z1 r c k)
    (h2 : ∀ (r : Fin 32) (c : Fin 224) (k : Fin 128), z2 (ix2 (⟨r.val * 224 + c.val, by omega⟩ : Fin 7168) k) = Z2 r c k)
    (h3 : ∀ (r : Fin 32) (c : Fin 224) (k : Fin 128), z3 (ix2 (⟨r.val * 224 + c.val, by omega⟩ : Fin 7168) k) = Z3 r c k)
    (h4 : ∀ (r : Fin 32) (c : Fin 224) (k : Fin 128),
      out4 (row i) (k0_pay49 (k0_pay2 x4 x5)) (k0_pay50 (k0_pay2 x4 x5)) (k0_pay57 (k0_pay1 x2 x3)) (k0_pay58 (k0_pay1 x2 x3)) (spat i x1)
        x9 (cols 0 y3) (cols 1 y3) (cols 2 y3) (ix3 r c k) = Z4 r c k)
    (hC : ∀ (x : Fin 512) (k : Fin 128), x10 (ix2 x k) = C x k) (hB : ∀ k : Fin 128, x11 (ix2 0 k) = B k)
    (r : Fin 32) (c : Fin 224) (k : Fin 96) :
    (last i x1 x2 x3 x4 x5 x9 x10 x11 y3 z1 z2 z3 : FVec Ideal S32x224x96 .f32) (ix3 r c k)
      = dot (Z1 r c) (C · k) + dot (Z2 r c) (fun x => C (128 + x) k) + dot (Z3 r c) (fun x => C (256 + x) k)
        + dot (Z4 r c) (fun x => C (384 + x) k) + B k := by
  pointwise [last, k0_pay109, k0_pay110, k0_pay111]
  refine congrArg₂ (· + ·) ?_ (hB _)
  refine Eq.trans (Finset.sum_congr rfl fun x _ => (?_ : _ = (fun n : ℕ => (if n < 128 then Z1 r c n else if n < 256 then Z2 r c (n - 128)
    else if n < 384 then Z3 r c (n - 256) else Z4 r c (n - 384)) * C n k) x.val)) ?_
  · refine congrArg₂ (· * ·) ?_ (hC _ _)
    by_cases a : x.val < 128
    · rw [dif_pos a, if_pos a]; exact h1 r c ⟨x.val, a⟩
    rw [dif_neg a, if_neg a]
    by_cases b : x.val < 256
    · rw [dif_pos (by omega), if_pos b]; exact h2 r c ⟨x.val - 128, by omega⟩
    rw [dif_neg (by omega), if_neg b]
    by_cases d : x.val < 384
    · rw [dif_pos (by omega), if_pos d]; exact (h3 r c ⟨x.val - 128 - 128, by omega⟩).trans (by simp only [Nat.sub_sub, Nat.reduceAdd])
    rw [dif_neg (by omega), if_neg d]
    exact (h4 r c ⟨x.val - 128 - 128 - 128, by omega⟩).trans (by simp only [Nat.sub_sub, Nat.reduceAdd])
  · refine (sum_four (fun n : ℕ => (if n < 128 then Z1 r c n else if n < 256 then Z2 r c (n - 128)
      else if n < 384 then Z3 r c (n - 256) else Z4 r c (n - 384)) * C n k)).trans ?_
    unfold dot
    refine congrArg₂ (· + ·) (congrArg₂ (· + ·) (congrArg₂ (· + ·) ?_ ?_) ?_) ?_ <;> refine Finset.sum_congr rfl fun x _ => ?_ <;>
      have hx := x.isLt
    · simp only [if_pos hx]
    · simp only [if_neg (show ¬ 128 + x.val < 128 by omega), if_pos (show 128 + x.val < 256 by omega), Nat.add_sub_cancel_left]
    · simp only [if_neg (show ¬ 256 + x.val < 128 by omega), if_neg (show ¬ 256 + x.val < 256 by omega),
        if_pos (show 256 + x.val < 384 by omega), Nat.add_sub_cancel_left]
    · simp only [if_neg (show ¬ 384 + x.val < 128 by omega), if_neg (show ¬ 384 + x.val < 256 by omega),
        if_neg (show ¬ 384 + x.val < 384 by omega), Nat.add_sub_cancel_left]

end Cert.KernelIdeal.Layers
-- ==== Proof.Image.lean ====
module

public import proofs.«01_k».proof.Proof.KernelIdeal.Layers

@[expose] public section

/-! # The arguments as functions of natural numbers

An array is continued by zero outside its extents. The image is shifted by four rows and one column, so that the rows above it
and the column on its left have natural numbers too. -/

noncomputable section

namespace Cert.Image

open Cert.KernelIdeal Cert.KernelIdeal.Layers
open Idealize.ShloMosaic

/-- The integer zero, cast, is zero. -/
theorem int_zero : (FloatOps.sitofp FTy.f32 (0#32) : Ideal .f32) = (0 : EReal) := by
  show ((((0#32 : BitVec 32).toInt : ℤ) : ℝ) : EReal) = 0
  simp

/-- The activations of one layer. -/
def image (x : FVec Ideal S1x224x224x96 .f32) (h w k : ℕ) : EReal :=
  if q : (4 ≤ h ∧ h - 4 < 224) ∧ (1 ≤ w ∧ w - 1 < 224) ∧ k < 96 then
    x (ix4 0 (⟨h - 4, q.1.2⟩ : Fin 224) (⟨w - 1, q.2.1.2⟩ : Fin 224) (⟨k, q.2.2⟩ : Fin 96)) else 0

/-- The spatial mask. -/
def mask (x : FVec Ideal S1x224x224x1 .f32) (h w : ℕ) : EReal :=
  if q : (4 ≤ h ∧ h - 4 < 224) ∧ w < 224 then x (ix4 0 (⟨h - 4, q.1.2⟩ : Fin 224) (⟨w, q.2⟩ : Fin 224) 0) else 0

/-- A table with a number for each choice and each channel. -/
def table (x : FVec Ideal S1x4x2x96 .f32) (n k : ℕ) : EReal :=
  if q : n < 8 ∧ k < 96 then x (ix4 0 (⟨n / 2, by omega⟩ : Fin 4) (⟨n % 2, by omega⟩ : Fin 2) (⟨k, q.2⟩ : Fin 96)) else 0

/-- The weights of a layer. -/
def weights (x : FVec Ideal S3x3x96x96 .f32) (a b w k : ℕ) : EReal :=
  if q : (a < 3 ∧ b < 3) ∧ w < 96 ∧ k < 96 then
    x (ix4 (⟨a, q.1.1⟩ : Fin 3) (⟨b, q.1.2⟩ : Fin 3) (⟨w, q.2.1⟩ : Fin 96) (⟨k, q.2.2⟩ : Fin 96)) else 0

/-- The weights of the last product, with 128 rows for each layer. -/
def mix (x : FVec Ideal S1x1x384x96 .f32) (w k : ℕ) : EReal :=
  if q : w / 128 < 4 ∧ w % 128 < 96 ∧ k < 96 then
    x (ix4 0 0 (⟨w / 128 * 96 + w % 128, by omega⟩ : Fin 384) (⟨k, q.2.2⟩ : Fin 96)) else 0

/-- The bias. -/
def bias (x : FVec Ideal S96 .f32) (k : ℕ) : EReal := if q : k < 96 then x (ix1 (⟨k, q⟩ : Fin 96)) else 0

/-- A product of channels of which the last 32 are zero. -/
theorem dot_96 (x w : ℕ → EReal) (h : ∀ i, 96 ≤ i → x i = 0) : dot x w = ∑ i : Fin 96, x i * w i := by
  unfold dot
  rw [Fin.sum_univ_eq_sum_range (fun i => x i * w i) 128, Fin.sum_univ_eq_sum_range (fun i => x i * w i) 96]
  symm
  refine Finset.sum_subset (fun i hi => ?_) (fun i _ hi => ?_)
  · simp only [Finset.mem_range] at hi ⊢; omega
  · rw [h i (by simpa using hi), zero_mul]

/-- The padding channels of the image are zero. -/
theorem image_last (x : FVec Ideal S1x224x224x96 .f32) (h w k : ℕ) (hk : 96 ≤ k) : image x h w k = 0 := by
  unfold image
  rw [dif_neg (by omega)]

end Cert.Image
-- ==== Proof.ReferenceIdeal.Layers.lean ====
module

public import proofs.«01_k».proof.Proof.Gen.ReferenceIdeal.Read
public import proofs.«01_k».proof.Proof.Image
public import Idealize.ShloMosaic.Lib.Pointwise

@[expose] public section

set_option maxRecDepth 16384

/-! # The layers of the reference, at one pixel and channel -/

noncomputable section

namespace Cert.ReferenceIdeal.Layers

open Cert.ReferenceIdeal Cert.ReferenceIdeal.Gen Cert.ReferenceIdeal.Read
open Cert.KernelIdeal.Layers (dot conv)
open Cert.Image
open Idealize.ShloMosaic Idealize.ShloMosaic.TcCoe Idealize.SL.Sem

/-- The image with a border of zeros. -/
abbrev frame (x : FVec Ideal S1x224x224x96 .f32) : FVec Ideal S1x226x226x96 .f32 :=
  pad S1x226x226x96 ![0, 1, 1, 0] ![0, 1, 1, 0] ![0, 0, 0, 0] x (sitofp .f32 (constantI S_ 32 0#32) : FVec Ideal S_ .f32)
    pads_S1x224x224x96_S1x226x226x96_000_110_110_000 h_S_

/-- The product with the weights of one of the nine neighbours. -/
abbrev tap (x : FVec Ideal S1x224x224x96 .f32) (w : FVec Ideal S3x3x96x96 .f32) (a b : ℕ)
    (ha : S1x226x226x96.Slices ![0, a, b, 0] S1x224x224x96) (hb : S3x3x96x96.Slices ![a, b, 0, 0] S1x1x96x96) :
    FVec Ideal S1x224x224x96 .f32 :=
  Host.dotGeneral dot_S1x224x224x96_S96x96_S1x224x224x96_3_0_012_1_n_n none
    (extractStridedSlice S1x224x224x96 ![0, a, b, 0] (frame x) ha)
    (shapeCast S96x96 (extractStridedSlice S1x1x96x96 ![a, b, 0, 0] w hb) shapeCasts_S1x1x96x96_S96x96)

/-- One shifted product at a pixel. -/
theorem tap_apply (x : FVec Ideal S1x224x224x96 .f32) (w : FVec Ideal S3x3x96x96 .f32) (a b : ℕ)
    (ha : S1x226x226x96.Slices ![0, a, b, 0] S1x224x224x96) (hb : S3x3x96x96.Slices ![a, b, 0, 0] S1x1x96x96)
    (r c : Fin 224) (k : Fin 96) (hab : a < 3 ∧ b < 3) :
    tap x w a b ha hb (ix4 0 r c k) = dot (image x (r + 3 + a) (c + b)) (weights w a b · k) := by
  rw [dot_96 _ _ (fun i hi => image_last x _ _ i hi)]
  pointwise [tap, frame]
  refine Finset.sum_congr rfl fun i _ => ?_
  congr 1
  · unfold image
    rw [int_zero]
    split_ifs with h h' h'
    · congr 2 <;> (apply Fin.ext; simp only []; omega)
    · omega
    · omega
    · rfl
  · unfold weights
    rw [dif_pos ⟨hab, i.isLt, k.isLt⟩]

/-- The convolution. -/
abbrev conv3 (x : FVec Ideal S1x224x224x96 .f32) (w : FVec Ideal S3x3x96x96 .f32) : FVec Ideal S1x224x224x96 .f32 :=
  addf (addf (addf (addf (addf (addf (addf (addf
    (tap x w 0 0 slices_S1x226x226x96_S1x224x224x96_0_0_0_0 slices_S3x3x96x96_S1x1x96x96_0_0_0_0)
    (tap x w 0 1 slices_S1x226x226x96_S1x224x224x96_0_0_1_0 slices_S3x3x96x96_S1x1x96x96_0_1_0_0))
    (tap x w 0 2 slices_S1x226x226x96_S1x224x224x96_0_0_2_0 slices_S3x3x96x96_S1x1x96x96_0_2_0_0))
    (tap x w 1 0 slices_S1x226x226x96_S1x224x224x96_0_1_0_0 slices_S3x3x96x96_S1x1x96x96_1_0_0_0))
    (tap x w 1 1 slices_S1x226x226x96_S1x224x224x96_0_1_1_0 slices_S3x3x96x96_S1x1x96x96_1_1_0_0))
    (tap x w 1 2 slices_S1x226x226x96_S1x224x224x96_0_1_2_0 slices_S3x3x96x96_S1x1x96x96_1_2_0_0))
    (tap x w 2 0 slices_S1x226x226x96_S1x224x224x96_0_2_0_0 slices_S3x3x96x96_S1x1x96x96_2_0_0_0))
    (tap x w 2 1 slices_S1x226x226x96_S1x224x224x96_0_2_1_0 slices_S3x3x96x96_S1x1x96x96_2_1_0_0))
    (tap x w 2 2 slices_S1x226x226x96_S1x224x224x96_0_2_2_0 slices_S3x3x96x96_S1x1x96x96_2_2_0_0)

/-- The sum of the nine shifted products at a pixel. -/
theorem conv3_apply (x : FVec Ideal S1x224x224x96 .f32) (w : FVec Ideal S3x3x96x96 .f32) (r c : Fin 224) (k : Fin 96) :
    conv3 x w (ix4 0 r c k) = conv (image x) (weights w) (r + 3) c k := by
  show tap x w 0 0 _ _ (ix4 0 r c k) + tap x w 0 1 _ _ (ix4 0 r c k) + tap x w 0 2 _ _ (ix4 0 r c k)
    + tap x w 1 0 _ _ (ix4 0 r c k) + tap x w 1 1 _ _ (ix4 0 r c k) + tap x w 1 2 _ _ (ix4 0 r c k)
    + tap x w 2 0 _ _ (ix4 0 r c k) + tap x w 2 1 _ _ (ix4 0 r c k) + tap x w 2 2 _ _ (ix4 0 r c k) = _
  rw [tap_apply x w 0 0 _ _ r c k (by decide), tap_apply x w 0 1 _ _ r c k (by decide), tap_apply x w 0 2 _ _ r c k (by decide),
    tap_apply x w 1 0 _ _ r c k (by decide), tap_apply x w 1 1 _ _ r c k (by decide), tap_apply x w 1 2 _ _ r c k (by decide),
    tap_apply x w 2 0 _ _ r c k (by decide), tap_apply x w 2 1 _ _ r c k (by decide), tap_apply x w 2 2 _ _ r c k (by decide)]
  rfl

/-- One row of the channel masks, repeated over the image. -/
abbrev channels (m : FVec Ideal S1x4x2x96 .f32) (i j : ℕ) (h : S1x4x2x96.Slices ![0, i, j, 0] S1x1x1x96) :
    FVec Ideal S1x224x224x96 .f32 :=
  broadcastInDim S1x224x224x96 ![0, 1, 2, 3] bcast_S1x1x1x96_S1x224x224x96_0_1_2_3
    (broadcastInDim S1x1x1x96 ![0, 3] bcast_S1x96_S1x1x1x96_0_3
      (shapeCast S1x96 (extractStridedSlice S1x1x1x96 ![0, i, j, 0] m h) shapeCasts_S1x1x1x96_S1x96))

/-- A channel mask spread over the image. -/
theorem channels_apply (m : FVec Ideal S1x4x2x96 .f32) (i j : ℕ) (h : S1x4x2x96.Slices ![0, i, j, 0] S1x1x1x96)
    (r c : Fin 224) (k : Fin 96) (hi : i < 4) (hj : j < 2) :
    channels m i j h (ix4 0 r c k) = m (ix4 0 (⟨i, hi⟩ : Fin 4) (⟨j, hj⟩ : Fin 2) k) := by
  pointwise [channels]

/-- The spatial mask, repeated over the channels. -/
abbrev pixels (s : FVec Ideal S1x224x224x1 .f32) : FVec Ideal S1x224x224x96 .f32 :=
  broadcastInDim S1x224x224x96 ![0, 1, 2, 3] bcast_S1x224x224x1_S1x224x224x96_0_1_2_3 s

/-- The spatial mask spread over the channels. -/
theorem pixels_apply (s : FVec Ideal S1x224x224x1 .f32) (r c : Fin 224) (k : Fin 96) :
    pixels s (ix4 0 r c k) = s (ix4 0 r c 0) := by
  pointwise [pixels]

/-- The zeros a layer is bounded by. -/
abbrev zeros : FVec Ideal S1x224x224x96 .f32 :=
  broadcastInDim S1x224x224x96 ![] bcast_S_S1x224x224x96 (constant S_ .f32 0x00000000#32 : FVec Ideal S_ .f32)

/-- The array of zeros. -/
theorem zeros_apply (r c : Fin 224) (k : Fin 96) : zeros (ix4 0 r c k) = (0 : EReal) := by
  pointwise [zeros]

/-- The first layer. -/
abbrev start (x : FVec Ideal S1x224x224x96 .f32) (w : FVec Ideal S3x3x96x96 .f32) (s : FVec Ideal S1x224x224x1 .f32)
    (d t : FVec Ideal S1x224x224x96 .f32) : FVec Ideal S1x224x224x96 .f32 :=
  maximumf (addf (mulf (mulf (conv3 x w) t) (pixels s)) (mulf (conv3 x w) d)) zeros

/-- The first layer at a pixel, from its convolution. -/
theorem start_apply (x : FVec Ideal S1x224x224x96 .f32) (w : FVec Ideal S3x3x96x96 .f32) (s : FVec Ideal S1x224x224x1 .f32)
    (d t : FVec Ideal S1x224x224x96 .f32) (r c : Fin 224) (k : Fin 96) :
    start x w s d t (ix4 0 r c k) = max (conv (image x) (weights w) (r + 3) c k * t (ix4 0 r c k) * s (ix4 0 r c 0)
      + conv (image x) (weights w) (r + 3) c k * d (ix4 0 r c k)) (0 : EReal) := by
  rw [← conv3_apply, ← pixels_apply s r c k, ← zeros_apply r c k]
  rfl

/-- A later layer: `dp` and `tp` are the masks of the layer before it. -/
abbrev next (x : FVec Ideal S1x224x224x96 .f32) (w : FVec Ideal S3x3x96x96 .f32) (s : FVec Ideal S1x224x224x1 .f32)
    (d t dp tp : FVec Ideal S1x224x224x96 .f32) : FVec Ideal S1x224x224x96 .f32 :=
  maximumf (addf (addf (addf (mulf (mulf (conv3 (mulf x dp) w) t) (pixels s)) (mulf (conv3 (mulf x dp) w) d))
    (mulf (mulf (conv3 (mulf x tp) w) t) (pixels s))) (mulf (mulf (conv3 (mulf x tp) w) d) (pixels s))) zeros

/-- A later layer at a pixel, from its two convolutions. -/
theorem next_apply (x : FVec Ideal S1x224x224x96 .f32) (w : FVec Ideal S3x3x96x96 .f32) (s : FVec Ideal S1x224x224x1 .f32)
    (d t dp tp : FVec Ideal S1x224x224x96 .f32) (r c : Fin 224) (k : Fin 96) :
    next x w s d t dp tp (ix4 0 r c k) = max (conv (image (mulf x dp)) (weights w) (r + 3) c k * t (ix4 0 r c k) * s (ix4 0 r c 0)
      + conv (image (mulf x dp)) (weights w) (r + 3) c k * d (ix4 0 r c k)
      + conv (image (mulf x tp)) (weights w) (r + 3) c k * t (ix4 0 r c k) * s (ix4 0 r c 0)
      + conv (image (mulf x tp)) (weights w) (r + 3) c k * d (ix4 0 r c k) * s (ix4 0 r c 0)) (0 : EReal) := by
  rw [← conv3_apply, ← conv3_apply, ← pixels_apply s r c k, ← zeros_apply r c k]
  rfl

variable (x0 : FVec Ideal S1x224x224x96 .f32) (x1 : FVec Ideal S1x224x224x1 .f32) (x2 : FVec Ideal S1x4x2x96 .f32)
  (x3 x4 x5 x6 : FVec Ideal S3x3x96x96 .f32) (x7 : FVec Ideal S1x1x384x96 .f32) (x8 : FVec Ideal S96 .f32)

/-- The convolution of the first layer. -/
theorem conv_1 : val_main_v260 (F := Ideal) x0 x3 = conv3 x0 x3 := rfl

attribute [local irreducible] val_main_v209 val_main_v260

/-- The activations of the first layer. -/
theorem layer1 : val_main_v269 (F := Ideal) x0 x1 x2 x3 = start x0 x3 x1
    (channels (val_main_v209 (F := Ideal) x2) 0 0 slices_S1x4x2x96_S1x1x1x96_0_0_0_0)
    (channels (val_main_v209 (F := Ideal) x2) 0 1 slices_S1x4x2x96_S1x1x1x96_0_0_1_0) := by
  unfold start
  rw [← conv_1]
  rfl

attribute [local irreducible] val_main_v269

/-- The dense convolution of the second layer. -/
theorem conv_2_0 : val_main_v328 (F := Ideal) x0 x1 x2 x3 x4 =
    conv3 (mulf (val_main_v269 (F := Ideal) x0 x1 x2 x3) (channels (val_main_v209 (F := Ideal) x2) 0 0 slices_S1x4x2x96_S1x1x1x96_0_0_0_0)) x4 := rfl

/-- The sparse convolution of the second layer. -/
theorem conv_2_1 : val_main_v375 (F := Ideal) x0 x1 x2 x3 x4 =
    conv3 (mulf (val_main_v269 (F := Ideal) x0 x1 x2 x3) (channels (val_main_v209 (F := Ideal) x2) 0 1 slices_S1x4x2x96_S1x1x1x96_0_0_1_0)) x4 := rfl

attribute [local irreducible] val_main_v328 val_main_v375

/-- The activations of the second layer. -/
theorem layer2 : val_main_v394 (F := Ideal) x0 x1 x2 x3 x4 = next (val_main_v269 (F := Ideal) x0 x1 x2 x3) x4 x1
    (channels (val_main_v209 (F := Ideal) x2) 1 0 slices_S1x4x2x96_S1x1x1x96_0_1_0_0)
    (channels (val_main_v209 (F := Ideal) x2) 1 1 slices_S1x4x2x96_S1x1x1x96_0_1_1_0)
    (channels (val_main_v209 (F := Ideal) x2) 0 0 slices_S1x4x2x96_S1x1x1x96_0_0_0_0)
    (channels (val_main_v209 (F := Ideal) x2) 0 1 slices_S1x4x2x96_S1x1x1x96_0_0_1_0) := by
  unfold next
  rw [← conv_2_0, ← conv_2_1]
  rfl

attribute [local irreducible] val_main_v394

/-- The dense convolution of the third layer. -/
theorem conv_3_0 : val_main_v453 (F := Ideal) x0 x1 x2 x3 x4 x5 =
    conv3 (mulf (val_main_v394 (F := Ideal) x0 x1 x2 x3 x4) (channels (val_main_v209 (F := Ideal) x2) 1 0 slices_S1x4x2x96_S1x1x1x96_0_1_0_0)) x5 := rfl

/-- The sparse convolution of the third layer. -/
theorem conv_3_1 : val_main_v500 (F := Ideal) x0 x1 x2 x3 x4 x5 =
    conv3 (mulf (val_main_v394 (F := Ideal) x0 x1 x2 x3 x4) (channels (val_main_v209 (F := Ideal) x2) 1 1 slices_S1x4x2x96_S1x1x1x96_0_1_1_0)) x5 := rfl

attribute [local irreducible] val_main_v453 val_main_v500

/-- The activations of the third layer. -/
theorem layer3 : val_main_v519 (F := Ideal) x0 x1 x2 x3 x4 x5 = next (val_main_v394 (F := Ideal) x0 x1 x2 x3 x4) x5 x1
    (channels (val_main_v209 (F := Ideal) x2) 2 0 slices_S1x4x2x96_S1x1x1x96_0_2_0_0)
    (channels (val_main_v209 (F := Ideal) x2) 2 1 slices_S1x4x2x96_S1x1x1x96_0_2_1_0)
    (channels (val_main_v209 (F := Ideal) x2) 1 0 slices_S1x4x2x96_S1x1x1x96_0_1_0_0)
    (channels (val_main_v209 (F := Ideal) x2) 1 1 slices_S1x4x2x96_S1x1x1x96_0_1_1_0) := by
  unfold next
  rw [← conv_3_0, ← conv_3_1]
  rfl

attribute [local irreducible] val_main_v519

/-- The dense convolution of the fourth layer. -/
theorem conv_4_0 : val_main_v578 (F := Ideal) x0 x1 x2 x3 x4 x5 x6 =
    conv3 (mulf (val_main_v519 (F := Ideal) x0 x1 x2 x3 x4 x5) (channels (val_main_v209 (F := Ideal) x2) 2 0 slices_S1x4x2x96_S1x1x1x96_0_2_0_0)) x6 := rfl

/-- The sparse convolution of the fourth layer. -/
theorem conv_4_1 : val_main_v625 (F := Ideal) x0 x1 x2 x3 x4 x5 x6 =
    conv3 (mulf (val_main_v519 (F := Ideal) x0 x1 x2 x3 x4 x5) (channels (val_main_v209 (F := Ideal) x2) 2 1 slices_S1x4x2x96_S1x1x1x96_0_2_1_0)) x6 := rfl

attribute [local irreducible] val_main_v578 val_main_v625

/-- The activations of the fourth layer. -/
theorem layer4 : val_main_v644 (F := Ideal) x0 x1 x2 x3 x4 x5 x6 = next (val_main_v519 (F := Ideal) x0 x1 x2 x3 x4 x5) x6 x1
    (channels (val_main_v209 (F := Ideal) x2) 3 0 slices_S1x4x2x96_S1x1x1x96_0_3_0_0)
    (channels (val_main_v209 (F := Ideal) x2) 3 1 slices_S1x4x2x96_S1x1x1x96_0_3_1_0)
    (channels (val_main_v209 (F := Ideal) x2) 2 0 slices_S1x4x2x96_S1x1x1x96_0_2_0_0)
    (channels (val_main_v209 (F := Ideal) x2) 2 1 slices_S1x4x2x96_S1x1x1x96_0_2_1_0) := by
  unfold next
  rw [← conv_4_0, ← conv_4_1]
  rfl

/-- A sum over four groups of 96. -/
theorem sum_groups (f : ℕ → EReal) : ∑ x : Fin 384, f x
    = ∑ x : Fin 96, f x + ∑ x : Fin 96, f (96 + x) + ∑ x : Fin 96, f (192 + x) + ∑ x : Fin 96, f (288 + x) := by
  rw [Fin.sum_univ_eq_sum_range f 384, show 384 = 96 + (96 + (96 + 96)) from rfl, Finset.sum_range_add, Finset.sum_range_add,
    Finset.sum_range_add]
  simp only [← Fin.sum_univ_eq_sum_range, ← add_assoc, Nat.reduceAdd]

/-- A product with one group of the last weights. -/
theorem group_apply (a : FVec Ideal S1x224x224x96 .f32) (n : ℕ) (hn : n < 4) (r q : Fin 224) (k : Fin 96) :
    dot (image a (r + 4) (q + 1)) (fun x => mix x7 (128 * n + x) k)
      = ∑ x : Fin 96, a (ix4 0 r q x) * x7 (ix4 0 0 (⟨96 * n + x, by omega⟩ : Fin 384) k) := by
  rw [dot_96 _ _ (fun i hi => image_last a _ _ i hi)]
  refine Finset.sum_congr rfl fun x _ => ?_
  have hx := x.isLt
  congr 1
  · unfold image
    rw [dif_pos (by have := r.isLt; have := q.isLt; omega)]
    congr 1
  · unfold mix
    rw [dif_pos (by have := k.isLt; omega)]
    congr 2
    apply Fin.ext
    show (128 * n + x.val) / 128 * 96 + (128 * n + x.val) % 128 = 96 * n + x.val
    omega

/-- The last product of four joined images. -/
theorem joined_apply (a b c d : S1x224x224x96.Idx → EReal) (h) (r q : Fin 224) (k : Fin 96) :
    (Host.dotGeneral dot_S1x224x224x384_S384x96_S1x224x224x96_3_0_012_1_n_n none
      (concatenate S1x224x224x384 3 [⟨S1x224x224x96, a⟩, ⟨S1x224x224x96, b⟩, ⟨S1x224x224x96, c⟩, ⟨S1x224x224x96, d⟩] h
        : FVec Ideal S1x224x224x384 .f32)
      (shapeCast S384x96 x7 shapeCasts_S1x1x384x96_S384x96) : FVec Ideal S1x224x224x96 .f32) (ix4 0 r q k)
    = dot (image a (r + 4) (q + 1)) (fun x => mix x7 x k) + dot (image b (r + 4) (q + 1)) (fun x => mix x7 (128 + x) k)
      + dot (image c (r + 4) (q + 1)) (fun x => mix x7 (256 + x) k) + dot (image d (r + 4) (q + 1)) (fun x => mix x7 (384 + x) k) := by
  have g0 := group_apply x7 a 0 (by decide) r q k
  have g1 := group_apply x7 b 1 (by decide) r q k
  have g2 := group_apply x7 c 2 (by decide) r q k
  have g3 := group_apply x7 d 3 (by decide) r q k
  simp only [Nat.mul_zero, Nat.mul_one, Nat.zero_add, Nat.reduceMul] at g0 g1 g2 g3
  rw [g0, g1, g2, g3]
  pointwise []
  refine ((Finset.sum_congr rfl fun x _ => ?_).trans (sum_groups (fun n =>
    if hn : n < 384 then
      (if h1 : n < 96 then a (ix4 0 r q (⟨n, h1⟩ : Fin 96)) else
        if h2 : n - 96 < 96 then b (ix4 0 r q (⟨n - 96, h2⟩ : Fin 96)) else
        if h3 : n - 96 - 96 < 96 then c (ix4 0 r q (⟨n - 96 - 96, h3⟩ : Fin 96)) else
          d (ix4 0 r q (⟨n - 96 - 96 - 96, by omega⟩ : Fin 96))) * x7 (ix4 0 0 (⟨n, hn⟩ : Fin 384) k)
    else 0))).trans ?_
  · rw [dif_pos x.isLt]
  · refine congrArg₂ (· + ·) (congrArg₂ (· + ·) (congrArg₂ (· + ·) ?_ ?_) ?_) ?_ <;> refine Finset.sum_congr rfl fun x _ => ?_ <;>
      have hx := x.isLt
    · rw [dif_pos (by omega), dif_pos (by omega)]
    · rw [dif_pos (by omega), dif_neg (by omega), dif_pos (by omega)]
      congr 3
      apply Fin.ext
      simp only []
      omega
    · rw [dif_pos (by omega), dif_neg (by omega), dif_neg (by omega), dif_pos (by omega)]
      congr 3
      apply Fin.ext
      simp only []
      omega
    · rw [dif_pos (by omega), dif_neg (by omega), dif_neg (by omega), dif_neg (by omega)]
      congr 3
      apply Fin.ext
      simp only []
      omega

/-- The first result. -/
theorem out_apply (r q : Fin 224) (k : Fin 96) :
    val_main_v650 (F := Ideal) x0 x1 x2 x3 x4 x5 x6 x7 x8 (ix4 0 r q k)
    = dot (image (val_main_v269 (F := Ideal) x0 x1 x2 x3) (r + 4) (q + 1)) (fun x => mix x7 x k)
      + dot (image (val_main_v394 (F := Ideal) x0 x1 x2 x3 x4) (r + 4) (q + 1)) (fun x => mix x7 (128 + x) k)
      + dot (image (val_main_v519 (F := Ideal) x0 x1 x2 x3 x4 x5) (r + 4) (q + 1)) (fun x => mix x7 (256 + x) k)
      + dot (image (val_main_v644 (F := Ideal) x0 x1 x2 x3 x4 x5 x6) (r + 4) (q + 1)) (fun x => mix x7 (384 + x) k) + bias x8 k := by
  have hb : val_main_v649 (F := Ideal) x8 (ix4 0 r q k) = bias x8 k := by
    pointwise [val_main_v649, val_main_v648]
    unfold bias
    rw [dif_pos k.isLt]
  rw [val_main_v650_apply, hb, ← joined_apply]
  rfl

end Cert.ReferenceIdeal.Layers
-- ==== Proof.KernelIdeal.Masks.lean ====
module

public import proofs.«01_k».proof.Proof.KernelIdeal.Block
public import Idealize.ShloMosaic.Lib.Pointwise

@[expose] public section

set_option maxRecDepth 16384

/-! # The channel masks a grid point computes -/

noncomputable section

namespace Cert.KernelIdeal.Masks

open Cert.KernelIdeal Cert.KernelIdeal.Gen Cert.KernelIdeal.Block
open Idealize.ShloMosaic Idealize.ShloMosaic.TcCoe Idealize.SL.Sem

/-- The dense mask of a channel whose dense and sparse logits are `a` and `b`. -/
def dense (a b : EReal) : EReal := Ideal.div (Ideal.exp (a - max a b)) (Ideal.exp (a - max a b) + Ideal.exp (b - max a b))

/-- The sparse mask of a channel whose dense and sparse logits are `a` and `b`. -/
def sparse (a b : EReal) : EReal := Ideal.div (Ideal.exp (b - max a b)) (Ideal.exp (a - max a b) + Ideal.exp (b - max a b))

variable (x2 x3 : Vec Ideal S8x128 .f32) (x4 x5 : Vec Ideal S128x8 .f32) (L : ℕ → ℕ → EReal)

section
variable (hL : ∀ (n : Fin 8) (k : Fin 128), (x2 (ix2 n k) + x3 (ix2 n k) : EReal) = L n k) (k : Fin 128)
include hL

/-- The masks of the four layers as rows. -/
theorem rows :
    (k0_pay9 x2 x3 : FVec Ideal S1x128 .f32) (ix2 0 k) = dense (L 0 k) (L 1 k) ∧
    (k0_pay10 x2 x3 : FVec Ideal S1x128 .f32) (ix2 0 k) = sparse (L 0 k) (L 1 k) ∧
    (k0_pay25 x2 x3 : FVec Ideal S1x128 .f32) (ix2 0 k) = dense (L 2 k) (L 3 k) ∧
    (k0_pay26 x2 x3 : FVec Ideal S1x128 .f32) (ix2 0 k) = sparse (L 2 k) (L 3 k) ∧
    (k0_pay41 (k0_pay1 x2 x3) : FVec Ideal S1x128 .f32) (ix2 0 k) = dense (L 4 k) (L 5 k) ∧
    (k0_pay42 (k0_pay1 x2 x3) : FVec Ideal S1x128 .f32) (ix2 0 k) = sparse (L 4 k) (L 5 k) ∧
    (k0_pay57 (k0_pay1 x2 x3) : FVec Ideal S1x128 .f32) (ix2 0 k) = dense (L 6 k) (L 7 k) ∧
    (k0_pay58 (k0_pay1 x2 x3) : FVec Ideal S1x128 .f32) (ix2 0 k) = sparse (L 6 k) (L 7 k) := by
  have e0 := hL 0 k; have e1 := hL 1 k; have e2 := hL 2 k; have e3 := hL 3 k
  have e4 := hL 4 k; have e5 := hL 5 k; have e6 := hL 6 k; have e7 := hL 7 k
  refine ⟨?_, ?_, ?_, ?_, ?_, ?_, ?_, ?_⟩ <;>
  · pointwise [k0_pay1, k0_pay3, k0_pay4, k0_pay5, k0_pay6, k0_pay7, k0_pay8, k0_pay9, k0_pay10, k0_pay19, k0_pay20, k0_pay21,
      k0_pay22, k0_pay23, k0_pay24, k0_pay25, k0_pay26, k0_pay35, k0_pay36, k0_pay37, k0_pay38, k0_pay39, k0_pay40, k0_pay41,
      k0_pay42, k0_pay51, k0_pay52, k0_pay53, k0_pay54, k0_pay55, k0_pay56, k0_pay57, k0_pay58, dense, sparse]
    simp only [e0, e1, e2, e3, e4, e5, e6, e7] <;> rfl

/-- The block of channel masks. -/
theorem cmBlock_apply (n : Fin 8) : (cmBlock x2 x3 : FVec Ideal S1x8x128 .f32) (ix3 0 n k)
    = if n.val % 2 = 0 then dense (L n k) (L (n + 1) k) else sparse (L (n - 1) k) (L n k) := by
  obtain ⟨r0, r1, r2, r3, r4, r5, r6, r7⟩ := rows x2 x3 L hL k
  pointwise [cmBlock, k0_pay59]
  fin_cases n
  · exact r0
  · exact r1
  · exact r2
  · exact r3
  · exact r4
  · exact r5
  · exact r6
  · exact r7

end

/-- The masks of the first three layers as columns. -/
theorem columns (hL : ∀ (n : Fin 8) (k : Fin 128), (x4 (ix2 k n) + x5 (ix2 k n) : EReal) = L n k) (k : Fin 128) :
    (k0_pay17 x4 x5 : FVec Ideal S128x1 .f32) (ix2 k 0) = dense (L 0 k) (L 1 k) ∧
    (k0_pay18 x4 x5 : FVec Ideal S128x1 .f32) (ix2 k 0) = sparse (L 0 k) (L 1 k) ∧
    (d2T x4 x5 : FVec Ideal S128x1 .f32) (ix2 k 0) = dense (L 2 k) (L 3 k) ∧
    (s2T x4 x5 : FVec Ideal S128x1 .f32) (ix2 k 0) = sparse (L 2 k) (L 3 k) ∧
    (k0_pay49 (k0_pay2 x4 x5) : FVec Ideal S128x1 .f32) (ix2 k 0) = dense (L 4 k) (L 5 k) ∧
    (k0_pay50 (k0_pay2 x4 x5) : FVec Ideal S128x1 .f32) (ix2 k 0) = sparse (L 4 k) (L 5 k) := by
  have e0 := hL 0 k; have e1 := hL 1 k; have e2 := hL 2 k; have e3 := hL 3 k; have e4 := hL 4 k; have e5 := hL 5 k
  refine ⟨?_, ?_, ?_, ?_, ?_, ?_⟩ <;>
  · pointwise [k0_pay2, k0_pay11, k0_pay12, k0_pay13, k0_pay14, k0_pay15, k0_pay16, k0_pay17, k0_pay18, k0_pay27, k0_pay28, k0_pay29,
      k0_pay30, k0_pay31, k0_pay32, k0_pay33, k0_pay34, d2T, s2T, k0_pay43, k0_pay44, k0_pay45, k0_pay46, k0_pay47, k0_pay48,
      k0_pay49, k0_pay50, dense, sparse]
    simp only [e0, e1, e2, e3, e4, e5] <;> rfl

end Cert.KernelIdeal.Masks
-- ==== Proof.ReferenceIdeal.Masks.lean ====
module

public import proofs.«01_k».proof.Proof.ReferenceIdeal.Layers
public import proofs.«01_k».proof.Proof.KernelIdeal.Masks

@[expose] public section

set_option maxRecDepth 16384

/-! # The channel masks of the reference -/

noncomputable section

namespace Cert.ReferenceIdeal.Masks

open Cert.ReferenceIdeal Cert.ReferenceIdeal.Gen Cert.ReferenceIdeal.Read
open Cert.KernelIdeal.Masks (dense sparse)
open Cert.Image
open Idealize.ShloMosaic Idealize.ShloMosaic.TcCoe Idealize.SL.Sem

/-- The masks at real logits are real numbers that add up to one. -/
theorem masks_real (a b : ℝ) : ∃ d s : ℝ, dense a b = (d : EReal) ∧ sparse a b = (s : EReal) ∧ 0 ≤ d ∧ 0 ≤ s ∧ d + s = 1 := by
  have hm : max (a : EReal) (b : EReal) = ((max a b : ℝ) : EReal) := ((EReal.coe_strictMono.monotone).map_max).symm
  have hp : 0 < Real.exp (a - max a b) + Real.exp (b - max a b) := by positivity
  have hd : ∀ x : ℝ, Ideal.div (x : EReal) ((Real.exp (a - max a b) : EReal) + (Real.exp (b - max a b) : EReal))
      = ((x / (Real.exp (a - max a b) + Real.exp (b - max a b)) : ℝ) : EReal) := fun x => by
    rw [← EReal.coe_add]
    unfold Ideal.div
    rw [if_neg (by exact_mod_cast hp.ne'), ← EReal.coe_inv, ← EReal.coe_mul, div_eq_mul_inv]
  refine ⟨Real.exp (a - max a b) / (Real.exp (a - max a b) + Real.exp (b - max a b)),
    Real.exp (b - max a b) / (Real.exp (a - max a b) + Real.exp (b - max a b)), ?_, ?_, by positivity, by positivity, ?_⟩
  · unfold dense
    rw [hm, ← EReal.coe_sub, ← EReal.coe_sub]
    exact hd _
  · unfold sparse
    rw [hm, ← EReal.coe_sub, ← EReal.coe_sub]
    exact hd _
  · rw [← add_div, div_self hp.ne']

/-- Of finite logits the two masks of a channel are not negative and add up to one. -/
theorem masks (a b : EReal) (ha : a ≠ ⊤) (ha' : a ≠ ⊥) (hb : b ≠ ⊤) (hb' : b ≠ ⊥) :
    0 ≤ dense a b ∧ 0 ≤ sparse a b ∧ dense a b + sparse a b = 1 := by
  lift a to ℝ using ⟨ha, ha'⟩
  lift b to ℝ using ⟨hb, hb'⟩
  obtain ⟨d, s, e1, e2, h1, h2, h3⟩ := masks_real a b
  rw [e1, e2]
  exact ⟨by exact_mod_cast h1, by exact_mod_cast h2, by exact_mod_cast h3⟩

/-- The logits, numbered as the kernel numbers them. -/
def logits (x g : FVec Ideal S1x4x2x96 .f32) (n k : ℕ) : EReal := table x n k + table g n k

/-- The table read at row `2 i + j` is the array at layer `i` and side `j`. -/
theorem table_apply (x : FVec Ideal S1x4x2x96 .f32) (i : Fin 4) (j : Fin 2) (k : Fin 96) :
    table x (2 * i + j) k = x (ix4 0 i j k) := by
  unfold table
  have hi := i.isLt
  have hj := j.isLt
  rw [dif_pos ⟨by omega, k.isLt⟩]
  congr 2 <;> apply Fin.ext <;> simp only [] <;> omega

attribute [local irreducible] val_main_v195

/-- The logit of an entry: the argument with the noise added. -/
theorem logit (x2 : FVec Ideal S1x4x2x96 .f32) (i : Fin 4) (j : Fin 2) (k : Fin 96) :
    val_main_v198 (F := Ideal) x2 (ix4 0 i j k) = logits x2 (val_main_v195 (F := Ideal)) (2 * i + j) k := by
  unfold logits
  rw [table_apply, table_apply]
  pointwise [val_main_v198, val_main_v196, val_main_v197, val_main_cst_63]
  unfold Ideal.div
  rw [if_neg one_ne_zero, inv_one, mul_one]

/-- The maximum over a pair starts from minus infinity. -/
theorem lowest : Ideal.ofBits FTy.f32 0xFF800000#32 = ⊥ := by
  simp [Ideal.ofBits, Ideal.ieee]

/-- The larger of the two logits of a channel. -/
theorem top (x2 : FVec Ideal S1x4x2x96 .f32) (i : Fin 4) (j : Fin 2) (k : Fin 96) :
    val_main_v203 (F := Ideal) x2 (ix4 0 i j k) = max (val_main_v198 (F := Ideal) x2 (ix4 0 i 0 k)) (val_main_v198 (F := Ideal) x2 (ix4 0 i 1 k)) := by
  pointwise [val_main_v203, val_main_v202, val_main_v201, val_main_v200, val_main_v199, val_main_cst_64, val_main_cst_65]
  rw [show (4286578688#32 : BitVec 32) = 0xFF800000#32 from rfl, lowest, max_eq_right bot_le,
    show (Finset.univ : Finset (Fin 2)) = {0, 1} from rfl, Finset.fold_insert (by decide), Finset.fold_singleton, max_eq_left (bot_le (a := _))]

/-- The second result. -/
theorem masks_apply (x2 : FVec Ideal S1x4x2x96 .f32) (i : Fin 4) (j : Fin 2) (k : Fin 96) :
    val_main_v209 (F := Ideal) x2 (ix4 0 i j k) = if j = 0 then
      dense (logits x2 (val_main_v195 (F := Ideal)) (2 * i) k) (logits x2 (val_main_v195 (F := Ideal)) (2 * i + 1) k)
    else sparse (logits x2 (val_main_v195 (F := Ideal)) (2 * i) k) (logits x2 (val_main_v195 (F := Ideal)) (2 * i + 1) k) := by
  have l0 := logit x2 i 0 k
  have l1 := logit x2 i 1 k
  have e : ∀ j : Fin 2, val_main_v205 (F := Ideal) x2 (ix4 0 i j k) = Ideal.exp (val_main_v198 (F := Ideal) x2 (ix4 0 i j k)
      - max (val_main_v198 (F := Ideal) x2 (ix4 0 i 0 k)) (val_main_v198 (F := Ideal) x2 (ix4 0 i 1 k))) := fun j => by
    rw [← top x2 i j k]
    rfl
  have t : val_main_v208 (F := Ideal) x2 (ix4 0 i j k)
      = val_main_v205 (F := Ideal) x2 (ix4 0 i 0 k) + val_main_v205 (F := Ideal) x2 (ix4 0 i 1 k) := by
    pointwise [val_main_v208, val_main_v207, val_main_v206, val_main_cst_66]
    exact Fin.sum_univ_two _
  rw [val_main_v209_apply, t]
  show Ideal.div (val_main_v205 (F := Ideal) x2 (ix4 0 i j k)) _ = _
  simp only [e, l0, l1]
  obtain rfl | rfl : j = 0 ∨ j = 1 := by omega
  · rw [if_pos rfl]; exact congrArg (Ideal.div · _) (congrArg Ideal.exp (congrArg (· - _) l0))
  · rw [if_neg (by decide)]; exact congrArg (Ideal.div · _) (congrArg Ideal.exp (congrArg (· - _) l1))

end Cert.ReferenceIdeal.Masks
-- ==== Proof.KernelIdeal.Chain.lean ====
module

public import proofs.«01_k».proof.Proof.KernelIdeal.Layers
public import proofs.«01_k».proof.Proof.KernelIdeal.Masks

@[expose] public section

set_option maxRecDepth 16384

/-! # One grid point, from its blocks to the block of the result

The four layers of a grid point in a row. The blocks are given as functions of natural numbers, and so are the activations
of the network in the padded image: the block of the result is what the last product makes of them. -/

noncomputable section

namespace Cert.KernelIdeal.Chain

open Cert.KernelIdeal Cert.KernelIdeal.Gen Cert.KernelIdeal.Block Cert.KernelIdeal.Layers Cert.KernelIdeal.Masks
open Idealize.ShloMosaic Idealize.ShloMosaic.TcCoe Idealize.SL.Sem

/-- One in the rows of the image, zero in the padding. -/
def V (h : ℕ) : EReal := if 4 ≤ h ∧ h < 228 then 1 else 0

/-- The bit one, cast, is one. -/
theorem sitofp_one : (FloatOps.sitofp FTy.f32 (BitVec.setWidth 32 1#1) : Ideal .f32) = (1 : EReal) := by
  show (((BitVec.setWidth 32 1#1).toInt : ℝ) : EReal) = 1
  rw [show (BitVec.setWidth 32 1#1).toInt = 1 by decide]; simp

/-- The bit zero, cast, is zero. -/
theorem sitofp_zero : (FloatOps.sitofp FTy.f32 (BitVec.setWidth 32 0#1) : Ideal .f32) = (0 : EReal) := by
  show (((BitVec.setWidth 32 0#1).toInt : ℝ) : EReal) = 0
  rw [show (BitVec.setWidth 32 0#1).toInt = 0 by decide]; simp

/-- The comparison of a row number with the edges of the image, for every grid point, row and layer. -/
theorem row_test : ∀ (t : Fin 7) (r : Fin 38) (ℓ : Fin 5),
    IntOp.andi (IntOp.cmpi CmpIPredicate.sge (IntOp.addi (BitVec.ofNat 32 r)
        (Scalar.addi (Scalar.subi (Scalar.muli (BitVec.ofNat 32 t) 32#32) 4#32) (BitVec.ofNat 32 ℓ))) 0#32)
      (IntOp.cmpi CmpIPredicate.slt (IntOp.addi (BitVec.ofNat 32 r)
        (Scalar.addi (Scalar.subi (Scalar.muli (BitVec.ofNat 32 t) 32#32) 4#32) (BitVec.ofNat 32 ℓ))) 224#32)
      = if 4 ≤ 32 * t.val + r + ℓ ∧ 32 * t.val + r + ℓ < 228 then 1#1 else 0#1 := by decide +kernel

/-- The factor that marks the rows inside the image. -/
theorem inside_eq (i : grid0.Coords) (t : Fin 7) (ht : (i 0).val = t.val) (r : Fin 38) (ℓ : Fin 5) :
    inside (row i) (BitVec.ofNat 32 ℓ) r = V (32 * t.val + r + ℓ) := by
  unfold inside row V
  rw [ht, row_test t r ℓ]
  split
  · exact sitofp_one
  · exact sitofp_zero

/-- Grid point `t` starts at row `32 t`. -/
theorem off_eq : ∀ t : Fin 7, (Scalar.indexCast (Scalar.muli (BitVec.ofNat 32 t.val) 32#32) : BitVec 32).toNat = 32 * t.val := by
  decide +kernel

section
variable (i : grid0.Coords) (t : Fin 7) (ht : (i 0).val = t.val)
include ht

theorem off1 : k0_off1 i = ![32 * t.val, 0] := by unfold k0_off1; simp only [ht]; rw [off_eq t]
theorem off2 : k0_off2 i = ![32 * t.val, 0, 0] := by unfold k0_off2; simp only [ht]; rw [off_eq t]
theorem off3 : k0_off3 i = ![32 * t.val, 1, 0] := by unfold k0_off3; simp only [ht]; rw [off_eq t]
theorem off4 : k0_off4 i = ![32 * t.val, 2, 0] := by unfold k0_off4; simp only [ht]; rw [off_eq t]

end

/-- A load of 40 rows from row `g` and column `k` on. -/
theorem ld_rows (x : Vec Ideal S232x226x128 .bf16) (X : ℕ → ℕ → ℕ → EReal)
    (hX : ∀ (h : Fin 232) (w : Fin 226) (c : Fin 128), x (ix3 h w c) = X h w c) (off : Fin 3 → ℕ) (g k : ℕ) (e : off = ![g, k, 0])
    (inb) (r : Fin 40) (c : Fin 224) (j : Fin 128) :
    View.ld x (Rect.unit (s := S232x226x128) off S40x224x128.size inb) (ix3 r c j) = X (g + r) (c + k) j := by
  subst e
  have b0 := inb 0; have b1 := inb 1
  change g + 40 ≤ 232 at b0
  change k + 224 ≤ 226 at b1
  refine Eq.trans ?_ ((hX ⟨g + r.val, by omega⟩ ⟨c.val + k, by omega⟩ j))
  unfold View.ld
  congr 1
  funext a
  apply Fin.ext
  match a with
  | ⟨0, _⟩ => show g + 1 * r.val = g + r.val; omega
  | ⟨1, _⟩ => show k + 1 * c.val = c.val + k; omega
  | ⟨2, _⟩ => show 0 + 1 * j.val = j.val; omega

/-- The spatial mask of a layer at a pixel. -/
theorem spat_apply (i : grid0.Coords) (t : Fin 7) (ht : (i 0).val = t.val) (x : Vec Ideal S232x224 .f32) (P : ℕ → ℕ → EReal)
    (hP : ∀ (h : Fin 232) (w : Fin 224), x (ix2 h w) = P h w) (r : Fin 40) (c : Fin 224) :
    (spat i x : FVec Ideal S40x224 .f32) (ix2 r c) = P (32 * t.val + r) c := by
  refine Eq.trans ?_ ((hP ⟨32 * t.val + r.val, by omega⟩ c))
  unfold spat
  pointwise [k0_pay65]
  congr 1
  funext a
  apply Fin.ext
  match a with
  | ⟨0, _⟩ => show k0_off1 i 0 + r.val = 32 * t.val + r.val; rw [off1 i t ht]; rfl
  | ⟨1, _⟩ => show k0_off1 i 1 + c.val = c.val; rw [off1 i t ht]; show 0 + c.val = _; omega

/-- A row of activations at the column offset `k`. -/
theorem cols_apply {n : ℕ} (y : Vec Ideal ⟨3, ![n, 224, 128]⟩ .bf16) (X : ℕ → ℕ → ℕ → EReal) (H : Fin n → ℕ)
    (hy : ∀ (r : Fin n) (c : Fin 224) (j : Fin 128), y (ix3 r c j) = X (H r) (c + 1) j)
    (hX : ∀ h w j, ¬ (1 ≤ w ∧ w < 225) → X h w j = 0) (k : ℕ) (r : Fin n) (c : Fin 224) (j : Fin 128) :
    cols k y (ix3 r c j) = X (H r) (c + k) j := by
  unfold cols
  by_cases h : 1 ≤ c.val + k ∧ c.val + k < 225
  · refine (dif_pos h).trans ((hy r ⟨c.val + k - 1, by omega⟩ j).trans ?_)
    simp only [show c.val + k - 1 + 1 = c.val + k by omega]
  · refine (dif_neg h).trans ?_
    rw [hX _ _ _ h]
    exact Ideal.ofBits_zero .bf16

/-- The dense masks of layer `i`, from the logits. -/
def D (L : ℕ → ℕ → EReal) (i k : ℕ) : EReal := dense (L (2 * i) k) (L (2 * i + 1) k)
/-- The sparse masks of layer `i`, from the logits. -/
def S (L : ℕ → ℕ → EReal) (i k : ℕ) : EReal := sparse (L (2 * i) k) (L (2 * i + 1) k)

/-- The block a grid point stores, when `E 0` is the input and `E (i + 1)` is what layer `i` makes of `E i`. -/
theorem yBlock_apply (i : grid0.Coords) (t : Fin 7) (ht : (i 0).val = t.val)
    (x0 : Vec Ideal S232x226x128 .bf16) (x1 : Vec Ideal S232x224 .f32) (x2 x3 : Vec Ideal S8x128 .f32) (x4 x5 : Vec Ideal S128x8 .f32)
    (x6 : Vec Ideal S3x3x128x128 .bf16) (x7 x8 x9 : Vec Ideal S3x3x128x128 .f32) (x10 : Vec Ideal S512x128 .bf16)
    (x11 : Vec Ideal S1x128 .f32)
    (E : ℕ → ℕ → ℕ → ℕ → EReal) (W : ℕ → ℕ → ℕ → ℕ → ℕ → EReal) (P L C : ℕ → ℕ → EReal) (B : ℕ → EReal)
    (hx0 : ∀ (h : Fin 232) (w : Fin 226) (c : Fin 128), x0 (ix3 h w c) = E 0 h w c)
    (hx1 : ∀ (h : Fin 232) (w : Fin 224), x1 (ix2 h w) = P h w)
    (hr : ∀ (n : Fin 8) (k : Fin 128), (x2 (ix2 n k) + x3 (ix2 n k) : EReal) = L n k)
    (hc : ∀ (n : Fin 8) (k : Fin 128), (x4 (ix2 k n) + x5 (ix2 k n) : EReal) = L n k)
    (h6 : ∀ (a b : Fin 3) (x k : Fin 128), x6 (ix4 a b x k) = W 0 a b x k)
    (h7 : ∀ (a b : Fin 3) (x k : Fin 128), x7 (ix4 a b x k) = W 1 a b x k)
    (h8 : ∀ (a b : Fin 3) (x k : Fin 128), x8 (ix4 a b x k) = W 2 a b x k)
    (h9 : ∀ (a b : Fin 3) (x k : Fin 128), x9 (ix4 a b x k) = W 3 a b x k)
    (h10 : ∀ (x : Fin 512) (k : Fin 128), x10 (ix2 x k) = C x k) (h11 : ∀ k : Fin 128, x11 (ix2 0 k) = B k)
    (border : ∀ i h w j, ¬ (1 ≤ w ∧ w < 225) → E i h w j = 0)
    (first : ∀ (h : ℕ) (c : Fin 224) (k : Fin 128), h < 230 →
      max (conv (E 0) (W 0) h c k * (P (h + 1) c * S L 0 k + V (h + 1) * D L 0 k)) 0 = E 1 (h + 1) (c + 1) k)
    (step : ∀ (i h : ℕ) (c : Fin 224) (k : Fin 128), i < 3 → h < 230 →
      next (E (i + 1)) (W (i + 1)) P (D L (i + 1)) (S L (i + 1)) (D L i) (S L i) (V (h + 1)) h c k = E (i + 2) (h + 1) (c + 1) k)
    (r : Fin 32) (c : Fin 224) (k : Fin 96) :
    (yBlock i x0 x1 x2 x3 x4 x5 x6 x7 x8 x9 x10 x11 : FVec Ideal S32x224x96 .f32) (ix3 r c k)
      = dot (E 1 (32 * t.val + r + 4) (c + 1)) (C · k) + dot (E 2 (32 * t.val + r + 4) (c + 1)) (fun x => C (128 + x) k)
        + dot (E 3 (32 * t.val + r + 4) (c + 1)) (fun x => C (256 + x) k)
        + dot (E 4 (32 * t.val + r + 4) (c + 1)) (fun x => C (384 + x) k) + B k := by
  have hp := spat_apply i t ht x1 P hx1
  have hR := rows x2 x3 L hr
  have hC := columns x4 x5 L hc
  have in1 : ∀ r : Fin 38, inside (row i) 1#32 r = V (32 * t.val + r + 1) := fun r => inside_eq i t ht r 1
  have in2 : ∀ r : Fin 36, inside (row i) 2#32 r = V (32 * t.val + r + 2) := fun r => inside_eq i t ht ⟨r, by omega⟩ 2
  have in3 : ∀ r : Fin 34, inside (row i) 3#32 r = V (32 * t.val + r + 3) := fun r => inside_eq i t ht ⟨r, by omega⟩ 3
  have in4 : ∀ r : Fin 32, inside (row i) 4#32 r = V (32 * t.val + r + 4) := fun r => inside_eq i t ht ⟨r, by omega⟩ 4
  have e1 : ∀ (r : Fin 38) (c : Fin 224) (k : Fin 128), a1 i x0 x1 x2 x3 x6 (ix3 r c k) = E 1 (32 * t.val + r + 1) (c + 1) k := fun r c k =>
    (layer1_apply (E 0) (W 0) P (D L 0) (S L 0) (32 * t.val) (row i) _ _ _ _ _ _ x6 (fun k => (hR k).1) (fun k => (hR k).2.1) hp
      (ld_rows x0 (E 0) hx0 _ _ 0 (off2 i t ht) _) (ld_rows x0 (E 0) hx0 _ _ 1 (off3 i t ht) _) (ld_rows x0 (E 0) hx0 _ _ 2 (off4 i t ht) _)
      h6 r c k).trans (by rw [in1]; exact first _ c k (by omega))
  have m1 : ∀ (j : Fin 7168) (k : Fin 128), m1 i x0 x1 x2 x3 x6 (ix2 j k) = a1 i x0 x1 x2 x3 x6
      (ix3 (⟨3 + j.val / 224, by omega⟩ : Fin 38) (⟨j.val % 224, by omega⟩ : Fin 224) k) := fun j k => mid1_apply ..
  have e2 : ∀ (r : Fin 36) (c : Fin 224) (k : Fin 128), a2 i x1 x2 x3 x4 x5 x7 (a1 i x0 x1 x2 x3 x6) (ix3 r c k)
      = E 2 (32 * t.val + r + 2) (c + 1) k := fun r c k =>
    (store2_apply ..).trans ((layer2_apply (E 1) (W 1) P (D L 1) (S L 1) (D L 0) (S L 0) (32 * t.val) (row i) _ _ _ _ _ x7
      (fun k => (hC k).1) (fun k => (hC k).2.1) (fun k => (hR k).2.2.1) (fun k => (hR k).2.2.2.1) h7 hp _ _ _
      (cols_apply _ (E 1) _ e1 (border 1) 0) (cols_apply _ (E 1) _ e1 (border 1) 1) (cols_apply _ (E 1) _ e1 (border 1) 2)
      r c k).trans (by rw [in2]; exact step 0 _ c k (by omega) (by omega)))
  have m2 : ∀ (j : Fin 7168) (k : Fin 128), m2 i x1 x2 x3 x4 x5 x7 (a1 i x0 x1 x2 x3 x6) (ix2 j k)
      = a2 i x1 x2 x3 x4 x5 x7 (a1 i x0 x1 x2 x3 x6)
        (ix3 (⟨2 + j.val / 224, by omega⟩ : Fin 36) (⟨j.val % 224, by omega⟩ : Fin 224) k) := fun j k =>
    (mid2_apply ..).trans (store2_apply ..).symm
  have e3 : ∀ (r : Fin 34) (c : Fin 224) (k : Fin 128),
      a3 i x1 x2 x3 x4 x5 x8 (a2 i x1 x2 x3 x4 x5 x7 (a1 i x0 x1 x2 x3 x6)) (ix3 r c k) = E 3 (32 * t.val + r + 3) (c + 1) k := fun r c k =>
    (layer3_apply (E 2) (W 2) P (D L 2) (S L 2) (D L 1) (S L 1) (32 * t.val) (row i) _ _ _ _ _ x8
      (fun k => (hC k).2.2.1) (fun k => (hC k).2.2.2.1) (fun k => (hR k).2.2.2.2.1) (fun k => (hR k).2.2.2.2.2.1) h8 hp _ _ _
      (cols_apply _ (E 2) _ e2 (border 2) 0) (cols_apply _ (E 2) _ e2 (border 2) 1) (cols_apply _ (E 2) _ e2 (border 2) 2)
      r c k).trans (by rw [in3]; exact step 1 _ c k (by omega) (by omega))
  have m3 : ∀ (j : Fin 7168) (k : Fin 128), m3 i x1 x2 x3 x4 x5 x8 (a2 i x1 x2 x3 x4 x5 x7 (a1 i x0 x1 x2 x3 x6)) (ix2 j k)
      = a3 i x1 x2 x3 x4 x5 x8 (a2 i x1 x2 x3 x4 x5 x7 (a1 i x0 x1 x2 x3 x6))
        (ix3 (⟨1 + j.val / 224, by omega⟩ : Fin 34) (⟨j.val % 224, by omega⟩ : Fin 224) k) := fun j k => mid3_apply ..
  refine last_apply i x1 x2 x3 x4 x5 x9 x10 x11 _ _ _ _ (fun r c => E 1 (32 * t.val + r + 4) (c + 1))
    (fun r c => E 2 (32 * t.val + r + 4) (c + 1)) (fun r c => E 3 (32 * t.val + r + 4) (c + 1))
    (fun r c => E 4 (32 * t.val + r + 4) (c + 1)) C B ?_ ?_ ?_ ?_ h10 h11 r c k <;> intro r c k
  · rw [m1, e1]
    simp only [show 32 * t.val + (3 + (r.val * 224 + c.val) / 224) + 1 = 32 * t.val + r.val + 4 by omega,
      show (r.val * 224 + c.val) % 224 = c.val by omega]
  · rw [m2, e2]
    simp only [show 32 * t.val + (2 + (r.val * 224 + c.val) / 224) + 2 = 32 * t.val + r.val + 4 by omega,
      show (r.val * 224 + c.val) % 224 = c.val by omega]
  · rw [m3, e3]
    simp only [show 32 * t.val + (1 + (r.val * 224 + c.val) / 224) + 3 = 32 * t.val + r.val + 4 by omega,
      show (r.val * 224 + c.val) % 224 = c.val by omega]
  · exact (out4_apply (E 3) (W 3) P (D L 3) (S L 3) (D L 2) (S L 2) (32 * t.val) (row i) _ _ _ _ _ x9
      (fun k => (hC k).2.2.2.2.1) (fun k => (hC k).2.2.2.2.2) (fun k => (hR k).2.2.2.2.2.2.1) (fun k => (hR k).2.2.2.2.2.2.2) h9 hp _ _ _
      (cols_apply _ (E 3) _ e3 (border 3) 0) (cols_apply _ (E 3) _ e3 (border 3) 1) (cols_apply _ (E 3) _ e3 (border 3) 2)
      r c k).trans (by rw [in4]; exact step 2 _ c k (by omega) (by omega))

end Cert.KernelIdeal.Chain
-- ==== Proof.Equal.lean ====
module

public import proofs.«01_k».proof.Proof.ReferenceIdeal.Masks
public import proofs.«01_k».proof.Proof.KernelIdeal.Chain

@[expose] public section

set_option maxRecDepth 16384

/-! # A layer of the reference is a layer of the kernel

The kernel moves the channel masks of the layer before into the weights and the masks of the layer itself into one factor. -/

noncomputable section

namespace Cert.Equal

open Cert.ReferenceIdeal
open Cert.KernelIdeal.Layers (dot conv)
open Cert.KernelIdeal.Chain (V D S)
open Cert.ReferenceIdeal.Layers (start_apply next_apply)
open Cert.Image
open Idealize.ShloMosaic Idealize.ShloMosaic.TcCoe Idealize.SL.Sem

/-- A convolution whose weights into a channel are zero is zero there. -/
theorem conv_zero (X : ℕ → ℕ → ℕ → EReal) (W : ℕ → ℕ → ℕ → ℕ → EReal) (h w k : ℕ) (hW : ∀ a b x, W a b x k = 0) :
    conv X W h w k = 0 := by
  simp only [conv, dot, hW, mul_zero, Finset.sum_const_zero, add_zero]

/-- A factor of the channels goes into the weights. -/
theorem conv_scale (x m : FVec Ideal S1x224x224x96 .f32) (M : ℕ → EReal)
    (hm : ∀ (r c : Fin 224) (k : Fin 96), m (ix4 0 r c k) = M k) (W : ℕ → ℕ → ℕ → ℕ → EReal) (h w k : ℕ) :
    conv (image (mulf x m)) W h w k = conv (image x) (fun a b x k => W a b x k * M x) h w k := by
  have e : ∀ h w (f : ℕ → EReal), dot (image (mulf x m) h w) f = dot (image x h w) (fun i => f i * M i) := fun h w f => by
    unfold dot
    refine Finset.sum_congr rfl fun i _ => ?_
    unfold image
    split_ifs with q
    · show _ = _ * (f i * M i)
      rw [mul_comm (f i), ← mul_assoc, ← hm ⟨h - 4, q.1.2⟩ ⟨w - 1, q.2.1.2⟩ ⟨i, q.2.2⟩]
      rfl
    · rw [zero_mul, zero_mul]
  unfold conv
  simp only [e]

/-- The masks of the kernel's first layer are one factor. -/
theorem first_eq (f t d s : EReal) (ht : 0 ≤ t) (hd : 0 ≤ d) (hs : 0 ≤ s) :
    f * (s * t + 1 * d) = f * t * s + f * d := by
  rw [EReal.left_distrib_of_nonneg (mul_nonneg hs ht) (mul_nonneg zero_le_one hd), one_mul, mul_comm s t, ← mul_assoc]

/-- So are those of a later layer, where the two masks add up to one. -/
theorem step_eq (f g t d s : EReal) (ht : 0 ≤ t) (hd : 0 ≤ d) (hs : 0 ≤ s) (h1 : d + t = 1) :
    f * (s * t + 1 * d) + g * s = f * t * s + f * d + g * t * s + g * d * s := by
  have e : g * t * s + g * d * s = g * s := by
    rw [mul_assoc, mul_assoc, ← EReal.left_distrib_of_nonneg (mul_nonneg ht hs) (mul_nonneg hd hs),
      ← EReal.right_distrib_of_nonneg ht hd, add_comm t d, h1, one_mul]
  rw [first_eq f t d s ht hd hs, add_assoc (f * t * s + f * d), e]

section
variable (L : ℕ → ℕ → EReal) (x1 : FVec Ideal S1x224x224x1 .f32)
  (hx1 : ∀ i, (0 : EReal) ≤ x1 i)
  (hL : ∀ i k, i < 4 → k < 96 → 0 ≤ D L i k ∧ 0 ≤ S L i k ∧ D L i k + S L i k = 1)
include hx1 hL

/-- The first layer of the reference is the kernel's. -/
theorem first (x : FVec Ideal S1x224x224x96 .f32) (w : FVec Ideal S3x3x96x96 .f32) (d t : FVec Ideal S1x224x224x96 .f32)
    (hd : ∀ (r c : Fin 224) (k : Fin 96), d (ix4 0 r c k) = D L 0 k)
    (ht : ∀ (r c : Fin 224) (k : Fin 96), t (ix4 0 r c k) = S L 0 k) (h : ℕ) (c : Fin 224) (k : ℕ) :
    max (conv (image x) (weights w) h c k * (mask x1 (h + 1) c * S L 0 k + V (h + 1) * D L 0 k)) 0
      = image (Cert.ReferenceIdeal.Layers.start x w x1 d t) (h + 1) (c + 1) k := by
  have hc := c.isLt
  by_cases hk : k < 96
  swap
  · rw [image_last _ _ _ _ (by omega), conv_zero _ _ _ _ _ (fun a b x => dif_neg (by omega)), zero_mul, max_self]
  by_cases hr : 4 ≤ h + 1 ∧ h + 1 - 4 < 224
  · unfold image
    rw [dif_pos ⟨hr, by omega, hk⟩]
    obtain ⟨a, b, _⟩ := hL 0 k (by decide) hk
    have e := start_apply x w x1 d t ⟨h + 1 - 4, hr.2⟩ c ⟨k, hk⟩
    rw [hd, ht] at e
    refine Eq.trans ?_ (e.symm.trans (congrArg _ (by congr 1)))
    have hm : mask x1 (h + 1) c = x1 (ix4 0 (⟨h + 1 - 4, hr.2⟩ : Fin 224) c 0) := dif_pos ⟨hr, hc⟩
    rw [hm, show V (h + 1) = 1 from if_pos (by omega), first_eq _ _ _ _ b a (hx1 _), show h + 1 - 4 + 3 = h by omega]
    rfl
  · unfold image
    rw [dif_neg (by omega), show mask x1 (h + 1) c = 0 from dif_neg (by omega), show V (h + 1) = 0 from if_neg (by omega),
      zero_mul, zero_mul, add_zero, mul_zero, max_self]

/-- A later layer of the reference is the kernel's, if the layer before is. -/
theorem step (i : ℕ) (hi : i < 3) (x : FVec Ideal S1x224x224x96 .f32) (w : FVec Ideal S3x3x96x96 .f32)
    (d t dp tp : FVec Ideal S1x224x224x96 .f32)
    (hd : ∀ (r c : Fin 224) (k : Fin 96), d (ix4 0 r c k) = D L (i + 1) k)
    (ht : ∀ (r c : Fin 224) (k : Fin 96), t (ix4 0 r c k) = S L (i + 1) k)
    (hdp : ∀ (r c : Fin 224) (k : Fin 96), dp (ix4 0 r c k) = D L i k)
    (htp : ∀ (r c : Fin 224) (k : Fin 96), tp (ix4 0 r c k) = S L i k) (h : ℕ) (c : Fin 224) (k : ℕ) :
    Cert.KernelIdeal.Layers.next (image x) (weights w) (mask x1) (D L (i + 1)) (S L (i + 1)) (D L i) (S L i) (V (h + 1)) h c k
      = image (Cert.ReferenceIdeal.Layers.next x w x1 d t dp tp) (h + 1) (c + 1) k := by
  have hc := c.isLt
  unfold Cert.KernelIdeal.Layers.next
  by_cases hk : k < 96
  swap
  · rw [image_last _ _ _ _ (by omega)]
    have z : ∀ a b x, weights w a b x k = 0 := fun a b x => dif_neg (by omega)
    rw [conv_zero _ _ _ _ _ (fun a b x => by rw [z, zero_mul]), conv_zero _ _ _ _ _ (fun a b x => by rw [z, zero_mul]), zero_mul, zero_mul,
      add_zero, max_self]
  rw [← conv_scale x dp (D L i) hdp, ← conv_scale x tp (S L i) htp]
  by_cases hr : 4 ≤ h + 1 ∧ h + 1 - 4 < 224
  · have hi : image (Cert.ReferenceIdeal.Layers.next x w x1 d t dp tp) (h + 1) (c + 1) k
        = Cert.ReferenceIdeal.Layers.next x w x1 d t dp tp (ix4 0 (⟨h + 1 - 4, hr.2⟩ : Fin 224) c (⟨k, hk⟩ : Fin 96)) :=
      dif_pos ⟨hr, by omega, hk⟩
    obtain ⟨a, b, o⟩ := hL (i + 1) k (by omega) hk
    have hm : mask x1 (h + 1) c = x1 (ix4 0 (⟨h + 1 - 4, hr.2⟩ : Fin 224) c 0) := dif_pos ⟨hr, hc⟩
    rw [hi, next_apply, hd, ht, hm, show V (h + 1) = 1 from if_pos (by omega), step_eq _ _ _ _ _ b a (hx1 _) o]
    simp only [show h + 1 - 4 + 3 = h by omega]
  · rw [show mask x1 (h + 1) c = 0 from dif_neg (by omega), show V (h + 1) = 0 from if_neg (by omega),
      zero_mul, zero_mul, add_zero, mul_zero, mul_zero, add_zero, max_self]
    unfold image
    rw [dif_neg (by omega)]

end

section
open Cert.ReferenceIdeal.Gen Cert.ReferenceIdeal.Read
open Cert.ReferenceIdeal.Layers (layer1 layer2 layer3 layer4 channels channels_apply out_apply)
open Cert.ReferenceIdeal.Masks (logits masks_apply)

variable (x0 : FVec Ideal S1x224x224x96 .f32) (x1 : FVec Ideal S1x224x224x1 .f32) (x2 : FVec Ideal S1x4x2x96 .f32)
  (x3 x4 x5 x6 : FVec Ideal S3x3x96x96 .f32) (x7 : FVec Ideal S1x1x384x96 .f32) (x8 : FVec Ideal S96 .f32)

/-- The logits of the reference. -/
abbrev lg : ℕ → ℕ → EReal := logits x2 (val_main_v195 (F := Ideal))

/-- The dense masks of a layer, spread over the image. -/
theorem dense_channels (i : ℕ) (hi : i < 4) (h) (r c : Fin 224) (k : Fin 96) :
    channels (val_main_v209 (F := Ideal) x2) i 0 h (ix4 0 r c k) = D (lg x2) i k := by
  rw [channels_apply _ i 0 h r c k hi (by decide), masks_apply, if_pos (by simp [Fin.ext_iff])]
  rfl

/-- The sparse masks of a layer, spread over the image. -/
theorem sparse_channels (i : ℕ) (hi : i < 4) (h) (r c : Fin 224) (k : Fin 96) :
    channels (val_main_v209 (F := Ideal) x2) i 1 h (ix4 0 r c k) = S (lg x2) i k := by
  rw [channels_apply _ i 1 h r c k hi (by decide), masks_apply, if_neg (by simp [Fin.ext_iff])]
  rfl

/-- The input and the results of the four layers. -/
def images : ℕ → ℕ → ℕ → ℕ → EReal
  | 0 => image x0
  | 1 => image (val_main_v269 (F := Ideal) x0 x1 x2 x3)
  | 2 => image (val_main_v394 (F := Ideal) x0 x1 x2 x3 x4)
  | 3 => image (val_main_v519 (F := Ideal) x0 x1 x2 x3 x4 x5)
  | _ => image (val_main_v644 (F := Ideal) x0 x1 x2 x3 x4 x5 x6)

/-- The weights of the four layers. -/
def layerWeights : ℕ → ℕ → ℕ → ℕ → ℕ → EReal
  | 0 => weights x3
  | 1 => weights x4
  | 2 => weights x5
  | _ => weights x6

/-- The image is zero in its border columns. -/
theorem image_border (x : FVec Ideal S1x224x224x96 .f32) (h w k : ℕ) (hw : ¬ (1 ≤ w ∧ w < 225)) : image x h w k = 0 := by
  unfold image
  rw [dif_neg (by omega)]

/-- The block the kernel stores at grid point `t` holds rows `32 t` to `32 t + 31` of the reference's first result. -/
theorem block_eq (hx1 : ∀ i, (0 : EReal) ≤ x1 i)
    (hL : ∀ i k, i < 4 → k < 96 → 0 ≤ D (lg x2) i k ∧ 0 ≤ S (lg x2) i k ∧ D (lg x2) i k + S (lg x2) i k = 1)
    (i : Cert.KernelIdeal.grid0.Coords) (t : Fin 7) (ht : (i 0).val = t.val)
    (w0 : Vec Ideal Cert.KernelIdeal.S232x226x128 .bf16) (w1 : Vec Ideal Cert.KernelIdeal.S232x224 .f32)
    (w2 w3 : Vec Ideal Cert.KernelIdeal.S8x128 .f32) (w4 w5 : Vec Ideal Cert.KernelIdeal.S128x8 .f32)
    (w6 : Vec Ideal Cert.KernelIdeal.S3x3x128x128 .bf16) (w7 w8 w9 : Vec Ideal Cert.KernelIdeal.S3x3x128x128 .f32)
    (w10 : Vec Ideal Cert.KernelIdeal.S512x128 .bf16) (w11 : Vec Ideal Cert.KernelIdeal.S1x128 .f32)
    (h0 : ∀ (h : Fin 232) (w : Fin 226) (c : Fin 128), w0 (ix3 h w c) = image x0 h w c)
    (h1 : ∀ (h : Fin 232) (w : Fin 224), w1 (ix2 h w) = mask x1 h w)
    (hr : ∀ (n : Fin 8) (k : Fin 128), (w2 (ix2 n k) + w3 (ix2 n k) : EReal) = lg x2 n k)
    (hc : ∀ (n : Fin 8) (k : Fin 128), (w4 (ix2 k n) + w5 (ix2 k n) : EReal) = lg x2 n k)
    (h6 : ∀ (a b : Fin 3) (x k : Fin 128), w6 (ix4 a b x k) = weights x3 a b x k)
    (h7 : ∀ (a b : Fin 3) (x k : Fin 128), w7 (ix4 a b x k) = weights x4 a b x k)
    (h8 : ∀ (a b : Fin 3) (x k : Fin 128), w8 (ix4 a b x k) = weights x5 a b x k)
    (h9 : ∀ (a b : Fin 3) (x k : Fin 128), w9 (ix4 a b x k) = weights x6 a b x k)
    (h10 : ∀ (x : Fin 512) (k : Fin 128), w10 (ix2 x k) = mix x7 x k) (h11 : ∀ k : Fin 128, w11 (ix2 0 k) = bias x8 k)
    (r : Fin 32) (c : Fin 224) (k : Fin 96) :
    (Cert.KernelIdeal.Block.yBlock i w0 w1 w2 w3 w4 w5 w6 w7 w8 w9 w10 w11 : FVec Ideal Cert.KernelIdeal.S32x224x96 .f32) (ix3 r c k)
      = val_main_v650 (F := Ideal) x0 x1 x2 x3 x4 x5 x6 x7 x8 (ix4 0 (⟨32 * t.val + r.val, by omega⟩ : Fin 224) c k) := by
  rw [out_apply]
  exact Cert.KernelIdeal.Chain.yBlock_apply i t ht w0 w1 w2 w3 w4 w5 w6 w7 w8 w9 w10 w11 (images x0 x1 x2 x3 x4 x5 x6)
    (layerWeights x3 x4 x5 x6) (mask x1) (lg x2) (mix x7) (bias x8) h0 h1 hr hc h6 h7 h8 h9 h10 h11
    (fun i h w j hw => match i with
      | 0 => image_border _ h w j hw
      | 1 => image_border _ h w j hw
      | 2 => image_border _ h w j hw
      | 3 => image_border _ h w j hw
      | _ + 4 => image_border _ h w j hw)
    (fun h c k _ => (first (lg x2) x1 hx1 hL x0 x3 _ _ (dense_channels x2 0 (by decide) _) (sparse_channels x2 0 (by decide) _) h c k).trans
      (congrArg (image · (h + 1) (c + 1) k) (layer1 x0 x1 x2 x3).symm))
    (fun i h c k hi _ => match i, hi with
      | 0, hi => (step (lg x2) x1 hx1 hL 0 hi (val_main_v269 (F := Ideal) x0 x1 x2 x3) x4 _ _ _ _ (dense_channels x2 1 (by decide) _)
          (sparse_channels x2 1 (by decide) _) (dense_channels x2 0 (by decide) _) (sparse_channels x2 0 (by decide) _) h c k).trans
          (congrArg (image · (h + 1) (c + 1) k) (layer2 x0 x1 x2 x3 x4).symm)
      | 1, hi => (step (lg x2) x1 hx1 hL 1 hi (val_main_v394 (F := Ideal) x0 x1 x2 x3 x4) x5 _ _ _ _ (dense_channels x2 2 (by decide) _)
          (sparse_channels x2 2 (by decide) _) (dense_channels x2 1 (by decide) _) (sparse_channels x2 1 (by decide) _) h c k).trans
          (congrArg (image · (h + 1) (c + 1) k) (layer3 x0 x1 x2 x3 x4 x5).symm)
      | 2, hi => (step (lg x2) x1 hx1 hL 2 hi (val_main_v519 (F := Ideal) x0 x1 x2 x3 x4 x5) x6 _ _ _ _ (dense_channels x2 3 (by decide) _)
          (sparse_channels x2 3 (by decide) _) (dense_channels x2 2 (by decide) _) (sparse_channels x2 2 (by decide) _) h c k).trans
          (congrArg (image · (h + 1) (c + 1) k) (layer4 x0 x1 x2 x3 x4 x5 x6).symm)
      | n + 3, hi => absurd hi (by omega))
    r c ⟨k, by omega⟩

end

end Cert.Equal
-- ==== Proof.KernelIdeal.Entry.lean ====
module

public import proofs.«01_k».proof.Proof.Gen.KernelIdeal.Frame
public import Idealize.ShloMosaic.Lib.Pointwise
public import Idealize.ShloMosaic.Lib.Claim

@[expose] public section

set_option maxRecDepth 16384

/-! # The arrays the kernel is launched on -/

noncomputable section

namespace Cert.KernelIdeal.Entry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)

/-- The contents of the buffers once the uniform numbers are drawn. -/
def drawn : Valuation τ sig (Elt Ideal) := after hostOps0_1 (after hostOps0 (fun b => m (c, b)))

/-- The host operations after that. -/
abbrev later : List (HloOp τ sig (Elt Ideal)) :=
  List.flatten [hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19,
    hostOps0_20, hostOps0_21]

/-- The launch finds what the layout operations leave, run after the operations that draw the numbers. -/
theorem V0_eq : V0 m c = after later (drawn m c) := by
  unfold drawn
  rw [← after_append, ← after_append]
  rfl

variable (U : Valuation τ sig (Elt Ideal))

/-- The zero that pads. -/
abbrev z : FVec Ideal S_ .f32 := sitofp .f32 (constantI S_ 32 0#32)

/-- The padded image. -/
abbrev image (x : FVec Ideal S1x224x224x96 .f32) : FVec Ideal S232x226x128 .bf16 :=
  truncf .bf16 (pad S232x226x128 ![4, 1, 0] ![4, 1, 32] ![0, 0, 0] (shapeCast S224x224x96 x shapeCasts_S1x224x224x96_S224x224x96) z
    pads_S224x224x96_S232x226x128_440_110_0320 h_S_) bitsLt_bf16_f32

/-- The padded spatial mask. -/
abbrev mask (x : FVec Ideal S1x224x224x1 .f32) : FVec Ideal S232x224 .f32 :=
  pad S232x224 ![4, 0] ![4, 0] ![0, 0] (shapeCast S224x224 x shapeCasts_S1x224x224x1_S224x224) z pads_S224x224_S232x224_440_000 h_S_

/-- The padded table of one number for each of the eight choices and each channel. -/
abbrev table (x : FVec Ideal S1x4x2x96 .f32) : FVec Ideal S8x128 .f32 :=
  pad S8x128 ![0, 0] ![0, 32] ![0, 0] (shapeCast S8x96 x shapeCasts_S1x4x2x96_S8x96) z pads_S8x96_S8x128_000_0320 h_S_

/-- The padded weights. -/
abbrev weights (x : FVec Ideal S3x3x96x96 .f32) : FVec Ideal S3x3x128x128 .f32 :=
  pad S3x3x128x128 ![0, 0, 0, 0] ![0, 0, 32, 32] ![0, 0, 0, 0] x z pads_S3x3x96x96_S3x3x128x128_000_000_0320_0320 h_S_

/-- The padded weights of the last product. -/
abbrev mix (x : FVec Ideal S1x1x384x96 .f32) : FVec Ideal S512x128 .bf16 :=
  shapeCast S512x128 (truncf .bf16 (pad S4x128x128 ![0, 0, 0] ![0, 32, 32] ![0, 0, 0]
    (shapeCast S4x96x96 x shapeCasts_S1x1x384x96_S4x96x96) z pads_S4x96x96_S4x128x128_000_0320_0320 h_S_) bitsLt_bf16_f32)
    shapeCasts_S4x128x128_S512x128

/-- The padded bias. -/
abbrev bias (x : FVec Ideal S96 .f32) : FVec Ideal S1x128 .f32 :=
  pad S1x128 ![0, 0] ![0, 32] ![0, 0] (shapeCast S1x96 x shapeCasts_S96_S1x96) z pads_S1x96_S1x128_000_0320 h_S_

/-- The noise of a uniform number. -/
abbrev noise (u : FVec Ideal S1x4x2x96 .f32) : FVec Ideal S1x4x2x96 .f32 := Host.negf (Host.log (Host.negf (Host.log u)))

/-- What the layout operations make of the arguments, operand by operand. -/
theorem v20 : after later U (Proc.devRef .tc main_v20) =
    (image (U (Proc.devRef .tc main_arg0) : FVec Ideal S1x224x224x96 .f32) : FVec Ideal S232x226x128 .bf16) := by
  simp only [later, List.flatten_cons, List.flatten_nil, List.cons_append, List.nil_append, List.append_nil, hostOps0_2]
  after_results_simp
  rfl

theorem v22 : after later U (Proc.devRef .tc main_v22) =
    (mask (U (Proc.devRef .tc main_arg1) : FVec Ideal S1x224x224x1 .f32) : FVec Ideal S232x224 .f32) := by
  simp only [later, List.flatten_cons, List.flatten_nil, List.cons_append, List.nil_append, List.append_nil, hostOps0_2]
  after_results_simp
  rfl

theorem v13 : after later U (Proc.devRef .tc main_v13) =
    (table (U (Proc.devRef .tc main_arg2) : FVec Ideal S1x4x2x96 .f32) : FVec Ideal S8x128 .f32) := by
  simp only [later, List.flatten_cons, List.flatten_nil, List.cons_append, List.nil_append, List.append_nil, hostOps0_2]
  after_results_simp
  rfl

theorem v24 : after later U (Proc.devRef .tc main_v24) =
    (truncf .bf16 (weights (U (Proc.devRef .tc main_arg3) : FVec Ideal S3x3x96x96 .f32)) bitsLt_bf16_f32 : FVec Ideal S3x3x128x128 .bf16) := by
  simp only [later, List.flatten_cons, List.flatten_nil, List.cons_append, List.nil_append, List.append_nil, hostOps0_2]
  after_results_simp
  rfl

theorem v25 : after later U (Proc.devRef .tc main_v25) =
    (weights (U (Proc.devRef .tc main_arg4) : FVec Ideal S3x3x96x96 .f32) : FVec Ideal S3x3x128x128 .f32) := by
  simp only [later, List.flatten_cons, List.flatten_nil, List.cons_append, List.nil_append, List.append_nil, hostOps0_2]
  after_results_simp
  rfl

theorem v26 : after later U (Proc.devRef .tc main_v26) =
    (weights (U (Proc.devRef .tc main_arg5) : FVec Ideal S3x3x96x96 .f32) : FVec Ideal S3x3x128x128 .f32) := by
  simp only [later, List.flatten_cons, List.flatten_nil, List.cons_append, List.nil_append, List.append_nil, hostOps0_2]
  after_results_simp
  rfl

theorem v27 : after later U (Proc.devRef .tc main_v27) =
    (weights (U (Proc.devRef .tc main_arg6) : FVec Ideal S3x3x96x96 .f32) : FVec Ideal S3x3x128x128 .f32) := by
  simp only [later, List.flatten_cons, List.flatten_nil, List.cons_append, List.nil_append, List.append_nil, hostOps0_2]
  after_results_simp
  rfl

theorem v31 : after later U (Proc.devRef .tc main_v31) =
    (mix (U (Proc.devRef .tc main_arg7) : FVec Ideal S1x1x384x96 .f32) : FVec Ideal S512x128 .bf16) := by
  simp only [later, List.flatten_cons, List.flatten_nil, List.cons_append, List.nil_append, List.append_nil, hostOps0_2]
  after_results_simp
  rfl

theorem v33 : after later U (Proc.devRef .tc main_v33) =
    (bias (U (Proc.devRef .tc main_arg8) : FVec Ideal S96 .f32) : FVec Ideal S1x128 .f32) := by
  simp only [later, List.flatten_cons, List.flatten_nil, List.cons_append, List.nil_append, List.append_nil, hostOps0_2]
  after_results_simp
  rfl

theorem v15 : after later U (Proc.devRef .tc main_v15) =
    (table (noise (U (Proc.devRef .tc main_v7) : FVec Ideal S1x4x2x96 .f32)) : FVec Ideal S8x128 .f32) := by
  simp only [later, List.flatten_cons, List.flatten_nil, List.cons_append, List.nil_append, List.append_nil, hostOps0_2]
  after_results_simp
  rfl

theorem v16 : after later U (Proc.devRef .tc main_v16) =
    (transpose S128x8 [1, 0] (table (U (Proc.devRef .tc main_arg2) : FVec Ideal S1x4x2x96 .f32)) transposes_S8x128_S128x8_1_0 : FVec Ideal S128x8 .f32) := by
  simp only [later, List.flatten_cons, List.flatten_nil, List.cons_append, List.nil_append, List.append_nil, hostOps0_2]
  after_results_simp
  rfl

theorem v17 : after later U (Proc.devRef .tc main_v17) =
    (transpose S128x8 [1, 0] (table (noise (U (Proc.devRef .tc main_v7) : FVec Ideal S1x4x2x96 .f32))) transposes_S8x128_S128x8_1_0 : FVec Ideal S128x8 .f32) := by
  simp only [later, List.flatten_cons, List.flatten_nil, List.cons_append, List.nil_append, List.append_nil, hostOps0_2]
  after_results_simp
  rfl

end Cert.KernelIdeal.Entry
-- ==== Proof.KernelIdeal.Noise.lean ====
module

public import proofs.«01_k».proof.Proof.KernelIdeal.Entry
public import proofs.«01_k».proof.Proof.Gen.ReferenceIdeal.Read

@[expose] public section

set_option maxRecDepth 16384

/-! # The uniform numbers the kernel draws are the reference's

Both run the same twenty rounds of the block cipher, four at a time. -/

noncomputable section

namespace Cert.KernelIdeal.Noise

open Cert.KernelIdeal Cert.KernelIdeal.Gen Cert.KernelIdeal.Entry
open Idealize.ShloMosaic Idealize.ShloMosaic.TcCoe Idealize.ShloMosaic.StableHlo Idealize.SL.Sem

/-- A word for each number that is drawn. -/
abbrev Words : Type := IVec S1x4x2x96 32

/-- The same word everywhere. -/
abbrev all (n : IVec S_ 32) : Words := broadcastInDim S1x4x2x96 ![] bcast_S_S1x4x2x96 n

/-- The second word of one round: `a` is the new first word. -/
abbrev turn (r s : BitVec 32) (a b : Words) : Words :=
  xori a (ori (Host.shli b (all (constantI S_ 32 r))) (Host.shrui b (all (constantI S_ 32 s))))

/-- Four rounds. -/
abbrev rounds (r0 s0 r1 s1 r2 s2 r3 s3 : BitVec 32) (a b : Words) : Words × Words :=
  let a := addi a b
  let b := turn r0 s0 a b
  let a := addi a b
  let b := turn r1 s1 a b
  let a := addi a b
  let b := turn r2 s2 a b
  let a := addi a b
  (a, turn r3 s3 a b)

/-- The first word of four rounds, with a key added. -/
abbrev left (p : Words × Words) (k : IVec S_ 32) : Words := addi p.1 (all k)

/-- The second word of four rounds, with a key and a number added. -/
abbrev right (p : Words × Words) (k : IVec S_ 32) (n : BitVec 32) : Words := addi (addi p.2 (all k)) (all (constantI S_ 32 n))

/-- The rotations of the groups of four rounds. -/
abbrev even (a b : Words) : Words × Words := rounds 13 19 15 17 26 6 6 26 a b
/-- The rotations of the second, the fourth group and so on. -/
abbrev odd (a b : Words) : Words × Words := rounds 17 15 29 3 16 16 24 8 a b

/-- Part of the list of operations that draw the numbers. -/
abbrev part (n k : ℕ) : List (HloOp τ sig (Elt Ideal)) := (hostOps0_1.drop n).take k

/-- The list of operations is seven parts: the keys, five groups of four rounds, and the numbers made of the words. -/
theorem parts : (hostOps0_1 : List (HloOp τ sig (Elt Ideal)))
    = part 0 39 ++ (part 39 43 ++ (part 82 43 ++ (part 125 43 ++ (part 168 43 ++ (part 211 43 ++ part 254 18))))) := rfl

variable (U : Valuation τ sig (Elt Ideal))

/-- Each group of rounds leaves in its two results the two words that `left` and `right` say, from the words and keys it finds. -/
theorem left0 : after (part 39 43) U (Proc.devRef .tc main_call0_call0_v35) =
    left (even (U (Proc.devRef .tc main_call0_call0_v3) : Words) (U (Proc.devRef .tc main_call0_call0_v5) : Words)) (U (Proc.devRef .tc main_call0_v7) : IVec S_ 32) := by
  simp only [part, hostOps0_1, List.drop_succ_cons, List.take_succ_cons, List.drop_zero, List.take_zero]
  after_results_simp
  rfl

theorem right0 : after (part 39 43) U (Proc.devRef .tc main_call0_call0_v39) =
    right (even (U (Proc.devRef .tc main_call0_call0_v3) : Words) (U (Proc.devRef .tc main_call0_call0_v5) : Words)) (U (Proc.devRef .tc main_call0_call0_v1) : IVec S_ 32) 1 := by
  simp only [part, hostOps0_1, List.drop_succ_cons, List.take_succ_cons, List.drop_zero, List.take_zero]
  after_results_simp
  rfl

theorem left1 : after (part 82 43) U (Proc.devRef .tc main_call0_call0_v69) =
    left (odd (U (Proc.devRef .tc main_call0_call0_v35) : Words) (U (Proc.devRef .tc main_call0_call0_v39) : Words)) (U (Proc.devRef .tc main_call0_call0_v1) : IVec S_ 32) := by
  simp only [part, hostOps0_1, List.drop_succ_cons, List.take_succ_cons, List.drop_zero, List.take_zero]
  after_results_simp
  rfl

theorem right1 : after (part 82 43) U (Proc.devRef .tc main_call0_call0_v73) =
    right (odd (U (Proc.devRef .tc main_call0_call0_v35) : Words) (U (Proc.devRef .tc main_call0_call0_v39) : Words)) (U (Proc.devRef .tc main_call0_v5) : IVec S_ 32) 2 := by
  simp only [part, hostOps0_1, List.drop_succ_cons, List.take_succ_cons, List.drop_zero, List.take_zero]
  after_results_simp
  rfl

theorem left2 : after (part 125 43) U (Proc.devRef .tc main_call0_call0_v103) =
    left (even (U (Proc.devRef .tc main_call0_call0_v69) : Words) (U (Proc.devRef .tc main_call0_call0_v73) : Words)) (U (Proc.devRef .tc main_call0_v5) : IVec S_ 32) := by
  simp only [part, hostOps0_1, List.drop_succ_cons, List.take_succ_cons, List.drop_zero, List.take_zero]
  after_results_simp
  rfl

theorem right2 : after (part 125 43) U (Proc.devRef .tc main_call0_call0_v107) =
    right (even (U (Proc.devRef .tc main_call0_call0_v69) : Words) (U (Proc.devRef .tc main_call0_call0_v73) : Words)) (U (Proc.devRef .tc main_call0_v7) : IVec S_ 32) 3 := by
  simp only [part, hostOps0_1, List.drop_succ_cons, List.take_succ_cons, List.drop_zero, List.take_zero]
  after_results_simp
  rfl

theorem left3 : after (part 168 43) U (Proc.devRef .tc main_call0_call0_v137) =
    left (odd (U (Proc.devRef .tc main_call0_call0_v103) : Words) (U (Proc.devRef .tc main_call0_call0_v107) : Words)) (U (Proc.devRef .tc main_call0_v7) : IVec S_ 32) := by
  simp only [part, hostOps0_1, List.drop_succ_cons, List.take_succ_cons, List.drop_zero, List.take_zero]
  after_results_simp
  rfl

theorem right3 : after (part 168 43) U (Proc.devRef .tc main_call0_call0_v141) =
    right (odd (U (Proc.devRef .tc main_call0_call0_v103) : Words) (U (Proc.devRef .tc main_call0_call0_v107) : Words)) (U (Proc.devRef .tc main_call0_call0_v1) : IVec S_ 32) 4 := by
  simp only [part, hostOps0_1, List.drop_succ_cons, List.take_succ_cons, List.drop_zero, List.take_zero]
  after_results_simp
  rfl

theorem left4 : after (part 211 43) U (Proc.devRef .tc main_call0_v27_0) =
    left (even (U (Proc.devRef .tc main_call0_call0_v137) : Words) (U (Proc.devRef .tc main_call0_call0_v141) : Words)) (U (Proc.devRef .tc main_call0_call0_v1) : IVec S_ 32) := by
  simp only [part, hostOps0_1, List.drop_succ_cons, List.take_succ_cons, List.drop_zero, List.take_zero]
  after_results_simp
  rfl

theorem right4 : after (part 211 43) U (Proc.devRef .tc main_call0_v27_1) =
    right (even (U (Proc.devRef .tc main_call0_call0_v137) : Words) (U (Proc.devRef .tc main_call0_call0_v141) : Words)) (U (Proc.devRef .tc main_call0_v5) : IVec S_ 32) 5 := by
  simp only [part, hostOps0_1, List.drop_succ_cons, List.take_succ_cons, List.drop_zero, List.take_zero]
  after_results_simp
  rfl

/-- What the rounds do not write. -/
abbrev Kept (U U' : Valuation τ sig (Elt Ideal)) : Prop :=
  U' (Proc.devRef .tc main_call0_v5) = U (Proc.devRef .tc main_call0_v5)
    ∧ U' (Proc.devRef .tc main_call0_v7) = U (Proc.devRef .tc main_call0_v7)
    ∧ U' (Proc.devRef .tc main_call0_call0_v1) = U (Proc.devRef .tc main_call0_call0_v1)
    ∧ U' (Proc.devRef .tc main_call0_v2) = U (Proc.devRef .tc main_call0_v2)
    ∧ U' (Proc.devRef .tc main_call0_v3) = U (Proc.devRef .tc main_call0_v3)

/-- No group of rounds changes the keys or the bounds. -/
theorem kept0 : Kept U (after (part 39 43) U) := by
  unfold Kept
  simp only [part, hostOps0_1, List.drop_succ_cons, List.take_succ_cons, List.drop_zero, List.take_zero]
  refine ⟨?_, ?_, ?_, ?_, ?_⟩ <;> after_results_simp

theorem kept1 : Kept U (after (part 82 43) U) := by
  unfold Kept
  simp only [part, hostOps0_1, List.drop_succ_cons, List.take_succ_cons, List.drop_zero, List.take_zero]
  refine ⟨?_, ?_, ?_, ?_, ?_⟩ <;> after_results_simp

theorem kept2 : Kept U (after (part 125 43) U) := by
  unfold Kept
  simp only [part, hostOps0_1, List.drop_succ_cons, List.take_succ_cons, List.drop_zero, List.take_zero]
  refine ⟨?_, ?_, ?_, ?_, ?_⟩ <;> after_results_simp

theorem kept3 : Kept U (after (part 168 43) U) := by
  unfold Kept
  simp only [part, hostOps0_1, List.drop_succ_cons, List.take_succ_cons, List.drop_zero, List.take_zero]
  refine ⟨?_, ?_, ?_, ?_, ?_⟩ <;> after_results_simp

theorem kept4 : Kept U (after (part 211 43) U) := by
  unfold Kept
  simp only [part, hostOps0_1, List.drop_succ_cons, List.take_succ_cons, List.drop_zero, List.take_zero]
  refine ⟨?_, ?_, ?_, ?_, ?_⟩ <;> after_results_simp

/-- The uniform numbers, from the two words. -/
theorem last : after (part 254 18) U (Proc.devRef .tc main_v7) =
    (let lo : FVec Ideal S1x1x1x1 .f32 := U (Proc.devRef .tc main_call0_v2)
    let hi : FVec Ideal S1x1x1x1 .f32 := U (Proc.devRef .tc main_call0_v3)
    let w : Words := ori (Host.shrui (xori (U (Proc.devRef .tc main_call0_v27_0) : Words) (U (Proc.devRef .tc main_call0_v27_1) : Words))
      (all (constantI S_ 32 9#32))) (all (constantI S_ 32 1065353216#32))
    maximumf (broadcastInDim S1x4x2x96 ![0, 1, 2, 3] bcast_S1x1x1x1_S1x4x2x96_0_1_2_3 lo)
      (addf (mulf (subf (bitcastToFloat .f32 w) (broadcastInDim S1x4x2x96 ![] bcast_S_S1x4x2x96 (constant S_ .f32 0x3F800000#32 : FVec Ideal S_ .f32)))
          (broadcastInDim S1x4x2x96 ![0, 1, 2, 3] bcast_S1x1x1x1_S1x4x2x96_0_1_2_3 (subf hi lo)))
        (broadcastInDim S1x4x2x96 ![0, 1, 2, 3] bcast_S1x1x1x1_S1x4x2x96_0_1_2_3 lo)) : FVec Ideal S1x4x2x96 .f32) := by
  simp only [part, hostOps0_1, List.drop_succ_cons, List.take_succ_cons, List.drop_zero, List.take_zero]
  after_results_simp
  rfl

/-- The contents before the rounds. -/
abbrev first : Valuation τ sig (Elt Ideal) := after (part 0 39) (after hostOps0 U)

/-- The two words of the seed 1234. -/
abbrev seed : IVec S2 32 :=
  concatenate S2 0 [⟨S1, broadcastInDim S1 ![] bcast_S_S1 (Host.shrui (constantI S_ 32 1234#32) (constantI S_ 32 32#32) : IVec S_ 32)⟩,
    ⟨S1, broadcastInDim S1 ![] bcast_S_S1 (andi (constantI S_ 32 1234#32) (constantI S_ 32 4294967295#32) : IVec S_ 32)⟩] concatenates_S1_S1_S2_d0

/-- Word `n` of a pair, alone. -/
abbrev word0of (s : IVec S2 32) : IVec S_ 32 := shapeCast S_ (extractStridedSlice S1 ![0] s slices_S2_S1_0) shapeCasts_S1_S_

/-- The second word of a pair, alone. -/
abbrev word1of (s : IVec S2 32) : IVec S_ 32 := shapeCast S_ (extractStridedSlice S1 ![1] s slices_S2_S1_1) shapeCasts_S1_S_

/-- Each number's place in the table, counted row by row. -/
abbrev count : IVec S1x4x2x96 64 :=
  let by_ (n : BitVec 64) (d : Fin 4) : IVec S1x4x2x96 64 := muli (broadcastInDim S1x4x2x96 ![] bcast_S_S1x4x2x96 (constantI S_ 64 n)) (iotaInDim S1x4x2x96 64 d)
  addi (addi (addi (by_ 768#64 0) (by_ 192#64 1)) (by_ 96#64 2)) (by_ 1#64 3)

/-- The host builds the pair of seed words. -/
theorem seed_eq : after hostOps0 U (Proc.devRef .tc main_v6) = seed := by
  simp only [hostOps0]
  after_results_simp
  rfl

/-- The first seed word is zero. -/
theorem word0of_seed : word0of seed = constantI S_ 32 0#32 := by
  funext i
  pointwise []
  decide +kernel

/-- The second seed word is 1234. -/
theorem word1of_seed : word1of seed = constantI S_ 32 1234#32 := by
  funext i
  pointwise []
  decide +kernel

/-- The first key is the first seed word. -/
theorem key0_of : after (part 0 39) U (Proc.devRef .tc main_call0_v5) = word0of (U (Proc.devRef .tc main_v6)) := by
  simp only [part, hostOps0_1, List.drop_succ_cons, List.take_succ_cons, List.drop_zero, List.take_zero]
  after_results_simp
  rfl

/-- The second key is the second seed word. -/
theorem key1_of : after (part 0 39) U (Proc.devRef .tc main_call0_v7) = word1of (U (Proc.devRef .tc main_v6)) := by
  simp only [part, hostOps0_1, List.drop_succ_cons, List.take_succ_cons, List.drop_zero, List.take_zero]
  after_results_simp
  rfl

/-- The third key is made of the other two. -/
theorem key2_of : after (part 0 39) U (Proc.devRef .tc main_call0_call0_v1)
    = xori (xori (word0of (U (Proc.devRef .tc main_v6))) (word1of (U (Proc.devRef .tc main_v6)))) (constantI S_ 32 466688986#32) := by
  simp only [part, hostOps0_1, List.drop_succ_cons, List.take_succ_cons, List.drop_zero, List.take_zero]
  after_results_simp
  rfl

/-- The first words before the rounds: the high half of the place, with the first key added. -/
theorem word0_of : after (part 0 39) U (Proc.devRef .tc main_call0_call0_v3)
    = addi (trunci 32 (Host.shrui count (broadcastInDim S1x4x2x96 ![] bcast_S_S1x4x2x96 (constantI S_ 64 32#64))) natLt_32_64) (all (word0of (U (Proc.devRef .tc main_v6)))) := by
  simp only [part, hostOps0_1, List.drop_succ_cons, List.take_succ_cons, List.drop_zero, List.take_zero]
  after_results_simp
  rfl

/-- The second words before the rounds: the low half of the place, with the second key added. -/
theorem word1_of : after (part 0 39) U (Proc.devRef .tc main_call0_call0_v5)
    = addi (trunci 32 count natLt_32_64) (all (word1of (U (Proc.devRef .tc main_v6)))) := by
  simp only [part, hostOps0_1, List.drop_succ_cons, List.take_succ_cons, List.drop_zero, List.take_zero]
  after_results_simp
  rfl

/-- The three keys as numbers. -/
theorem key0 : first U (Proc.devRef .tc main_call0_v5) = (constantI S_ 32 0#32 : IVec S_ 32) := by
  rw [first, key0_of, seed_eq, word0of_seed]

theorem key1 : first U (Proc.devRef .tc main_call0_v7) = (constantI S_ 32 1234#32 : IVec S_ 32) := by
  rw [first, key1_of, seed_eq, word1of_seed]

theorem key2 : first U (Proc.devRef .tc main_call0_call0_v1) = (constantI S_ 32 466689800#32 : IVec S_ 32) := by
  rw [first, key2_of, seed_eq, word0of_seed, word1of_seed]
  funext i
  pointwise []
  decide +kernel

/-- The least number drawn, and the number one, as one-element tables. -/
abbrev least : FVec Ideal S1x1x1x1 .f32 := broadcastInDim S1x1x1x1 ![] bcast_S_S1x1x1x1 (constant S_ .f32 0x322BCC77#32 : FVec Ideal S_ .f32)
abbrev one : FVec Ideal S1x1x1x1 .f32 := broadcastInDim S1x1x1x1 ![] bcast_S_S1x1x1x1 (constant S_ .f32 0x3F800000#32 : FVec Ideal S_ .f32)

/-- The host holds the lower bound. -/
theorem lo : first U (Proc.devRef .tc main_call0_v2) = least := by
  simp only [first, part, hostOps0_1, List.drop_succ_cons, List.take_succ_cons, List.drop_zero, List.take_zero, hostOps0]
  after_results_simp
  rfl

/-- The host holds the upper bound. -/
theorem hi : first U (Proc.devRef .tc main_call0_v3) = one := by
  simp only [first, part, hostOps0_1, List.drop_succ_cons, List.take_succ_cons, List.drop_zero, List.take_zero, hostOps0]
  after_results_simp
  rfl

section
open Cert.ReferenceIdeal.Read

/-- The first words before the rounds are the reference's, entry by entry. -/
theorem word0_at (u : Fin 1) (x : Fin 4) (y : Fin 2) (k : Fin 96) :
    (addi (trunci 32 (Host.shrui count (broadcastInDim S1x4x2x96 ![] bcast_S_S1x4x2x96 (constantI S_ 64 32#64))) natLt_32_64) (all (constantI S_ 32 0#32)) : Words) (ix4 u x y k) = (val_main_v2 (F := Ideal) : Words) (ix4 u x y k) := by
  pointwise [val_main_v2, val_main_v0, val_main_v1, val_main_c, val_main_c_0]
  revert u x y k
  decide +kernel

/-- The first words before the rounds are the reference's. -/
theorem word0 : first U (Proc.devRef .tc main_call0_call0_v3) = (val_main_v2 (F := Ideal) : Words) := by
  rw [first, word0_of, seed_eq, word0of_seed]
  funext i
  rw [eq_ix4 i]
  exact word0_at _ _ _ _

/-- The second words before the rounds are the reference's, entry by entry. -/
theorem word1_at (u : Fin 1) (x : Fin 4) (y : Fin 2) (k : Fin 96) :
    (addi (trunci 32 count natLt_32_64) (all (constantI S_ 32 1234#32)) : Words) (ix4 u x y k) = (val_main_v6 (F := Ideal) : Words) (ix4 u x y k) := by
  pointwise [val_main_v6, val_main_v5, val_main_v4, val_main_v3, val_main_c_1]
  revert u x y k
  decide +kernel

/-- The second words before the rounds are the reference's. -/
theorem word1 : first U (Proc.devRef .tc main_call0_call0_v5) = (val_main_v6 (F := Ideal) : Words) := by
  rw [first, word1_of, seed_eq, word1of_seed]
  funext i
  rw [eq_ix4 i]
  exact word1_at _ _ _ _

/-- The reference's groups of rounds, in the same form: its two words after each group. -/
theorem refLeft0 : (val_main_v36 (F := Ideal) : Words) = left (even (val_main_v2 (F := Ideal)) (val_main_v6 (F := Ideal))) (constantI S_ 32 1234) := rfl

theorem refRight0 : (val_main_v40 (F := Ideal) : Words) = right (even (val_main_v2 (F := Ideal)) (val_main_v6 (F := Ideal))) (constantI S_ 32 466689800) 1 := rfl

attribute [local irreducible] val_main_v36 val_main_v40

theorem refLeft1 : (val_main_v70 (F := Ideal) : Words) = left (odd (val_main_v36 (F := Ideal)) (val_main_v40 (F := Ideal))) (constantI S_ 32 466689800) := rfl

theorem refRight1 : (val_main_v74 (F := Ideal) : Words) = right (odd (val_main_v36 (F := Ideal)) (val_main_v40 (F := Ideal))) (constantI S_ 32 0) 2 := rfl

attribute [local irreducible] val_main_v70 val_main_v74

theorem refLeft2 : (val_main_v104 (F := Ideal) : Words) = left (even (val_main_v70 (F := Ideal)) (val_main_v74 (F := Ideal))) (constantI S_ 32 0) := rfl

theorem refRight2 : (val_main_v108 (F := Ideal) : Words) = right (even (val_main_v70 (F := Ideal)) (val_main_v74 (F := Ideal))) (constantI S_ 32 1234) 3 := rfl

attribute [local irreducible] val_main_v104 val_main_v108

theorem refLeft3 : (val_main_v138 (F := Ideal) : Words) = left (odd (val_main_v104 (F := Ideal)) (val_main_v108 (F := Ideal))) (constantI S_ 32 1234) := rfl

theorem refRight3 : (val_main_v142 (F := Ideal) : Words) = right (odd (val_main_v104 (F := Ideal)) (val_main_v108 (F := Ideal))) (constantI S_ 32 466689800) 4 := rfl

attribute [local irreducible] val_main_v138 val_main_v142

theorem refLeft4 : (val_main_v172 (F := Ideal) : Words) = left (even (val_main_v138 (F := Ideal)) (val_main_v142 (F := Ideal))) (constantI S_ 32 466689800) := rfl

theorem refRight4 : (val_main_v176 (F := Ideal) : Words) = right (even (val_main_v138 (F := Ideal)) (val_main_v142 (F := Ideal))) (constantI S_ 32 0) 5 := rfl

/-- The keys and the two bounds, as they are all through the rounds. -/
abbrev Keys (U : Valuation τ sig (Elt Ideal)) : Prop :=
  U (Proc.devRef .tc main_call0_v5) = (constantI S_ 32 0#32 : IVec S_ 32)
    ∧ U (Proc.devRef .tc main_call0_v7) = (constantI S_ 32 1234#32 : IVec S_ 32)
    ∧ U (Proc.devRef .tc main_call0_call0_v1) = (constantI S_ 32 466689800#32 : IVec S_ 32)
    ∧ U (Proc.devRef .tc main_call0_v2) = least
    ∧ U (Proc.devRef .tc main_call0_v3) = one

theorem Keys.keep {U U' : Valuation τ sig (Elt Ideal)} (h : Keys U) (k : Kept U U') : Keys U' :=
  ⟨k.1.trans h.1, k.2.1.trans h.2.1, k.2.2.1.trans h.2.2.1, k.2.2.2.1.trans h.2.2.2.1, k.2.2.2.2.trans h.2.2.2.2⟩

attribute [local irreducible] val_main_v2 val_main_v6 val_main_v172 val_main_v176

/-- After the keys, and after each group of rounds, the kernel holds the words of the reference. -/
theorem step0 (h : Keys U) (ha : U (Proc.devRef .tc main_call0_call0_v3) = (val_main_v2 (F := Ideal) : Words))
    (hb : U (Proc.devRef .tc main_call0_call0_v5) = (val_main_v6 (F := Ideal) : Words)) :
    Keys (after (part 39 43) U) ∧ after (part 39 43) U (Proc.devRef .tc main_call0_call0_v35) = (val_main_v36 (F := Ideal) : Words)
      ∧ after (part 39 43) U (Proc.devRef .tc main_call0_call0_v39) = (val_main_v40 (F := Ideal) : Words) := by
  refine ⟨h.keep (kept0 U), ?_, ?_⟩
  · rw [left0, ha, hb, h.2.1]; exact refLeft0.symm
  · rw [right0, ha, hb, h.2.2.1]; exact refRight0.symm

theorem step1 (h : Keys U) (ha : U (Proc.devRef .tc main_call0_call0_v35) = (val_main_v36 (F := Ideal) : Words))
    (hb : U (Proc.devRef .tc main_call0_call0_v39) = (val_main_v40 (F := Ideal) : Words)) :
    Keys (after (part 82 43) U) ∧ after (part 82 43) U (Proc.devRef .tc main_call0_call0_v69) = (val_main_v70 (F := Ideal) : Words)
      ∧ after (part 82 43) U (Proc.devRef .tc main_call0_call0_v73) = (val_main_v74 (F := Ideal) : Words) := by
  refine ⟨h.keep (kept1 U), ?_, ?_⟩
  · rw [left1, ha, hb, h.2.2.1]; exact refLeft1.symm
  · rw [right1, ha, hb, h.1]; exact refRight1.symm

theorem step2 (h : Keys U) (ha : U (Proc.devRef .tc main_call0_call0_v69) = (val_main_v70 (F := Ideal) : Words))
    (hb : U (Proc.devRef .tc main_call0_call0_v73) = (val_main_v74 (F := Ideal) : Words)) :
    Keys (after (part 125 43) U) ∧ after (part 125 43) U (Proc.devRef .tc main_call0_call0_v103) = (val_main_v104 (F := Ideal) : Words)
      ∧ after (part 125 43) U (Proc.devRef .tc main_call0_call0_v107) = (val_main_v108 (F := Ideal) : Words) := by
  refine ⟨h.keep (kept2 U), ?_, ?_⟩
  · rw [left2, ha, hb, h.1]; exact refLeft2.symm
  · rw [right2, ha, hb, h.2.1]; exact refRight2.symm

theorem step3 (h : Keys U) (ha : U (Proc.devRef .tc main_call0_call0_v103) = (val_main_v104 (F := Ideal) : Words))
    (hb : U (Proc.devRef .tc main_call0_call0_v107) = (val_main_v108 (F := Ideal) : Words)) :
    Keys (after (part 168 43) U) ∧ after (part 168 43) U (Proc.devRef .tc main_call0_call0_v137) = (val_main_v138 (F := Ideal) : Words)
      ∧ after (part 168 43) U (Proc.devRef .tc main_call0_call0_v141) = (val_main_v142 (F := Ideal) : Words) := by
  refine ⟨h.keep (kept3 U), ?_, ?_⟩
  · rw [left3, ha, hb, h.2.1]; exact refLeft3.symm
  · rw [right3, ha, hb, h.2.2.1]; exact refRight3.symm

theorem step4 (h : Keys U) (ha : U (Proc.devRef .tc main_call0_call0_v137) = (val_main_v138 (F := Ideal) : Words))
    (hb : U (Proc.devRef .tc main_call0_call0_v141) = (val_main_v142 (F := Ideal) : Words)) :
    Keys (after (part 211 43) U) ∧ after (part 211 43) U (Proc.devRef .tc main_call0_v27_0) = (val_main_v172 (F := Ideal) : Words)
      ∧ after (part 211 43) U (Proc.devRef .tc main_call0_v27_1) = (val_main_v176 (F := Ideal) : Words) := by
  refine ⟨h.keep (kept4 U), ?_, ?_⟩
  · rw [left4, ha, hb, h.2.2.1]; exact refLeft4.symm
  · rw [right4, ha, hb, h.1]; exact refRight4.symm

theorem step5 (h : Keys U) (ha : U (Proc.devRef .tc main_call0_v27_0) = (val_main_v172 (F := Ideal) : Words))
    (hb : U (Proc.devRef .tc main_call0_v27_1) = (val_main_v176 (F := Ideal) : Words)) :
    after (part 254 18) U (Proc.devRef .tc main_v7) = (val_main_v191 (F := Ideal) : FVec Ideal S1x4x2x96 .f32) := by
  rw [last, ha, hb, h.2.2.2.1, h.2.2.2.2]
  rfl

/-- The uniform numbers are the reference's. -/
theorem uniform (m : (ℓ : Loc nD τ sig) → Buf (Elt Ideal) ℓ) (c : Dev nD) :
    drawn m c (Proc.devRef .tc main_v7) = (val_main_v191 (F := Ideal) : FVec Ideal S1x4x2x96 .f32) := by
  have h0 := step0 (first fun b => m (c, b)) ⟨key0 _, key1 _, key2 _, lo _, hi _⟩ (word0 _) (word1 _)
  have h1 := step1 _ h0.1 h0.2.1 h0.2.2
  have h2 := step2 _ h1.1 h1.2.1 h1.2.2
  have h3 := step3 _ h2.1 h2.2.1 h2.2.2
  have h4 := step4 _ h3.1 h3.2.1 h3.2.2
  have h5 := step5 _ h4.1 h4.2.1 h4.2.2
  rw [drawn, parts, after_append, after_append, after_append, after_append, after_append, after_append]
  exact h5

/-- The noise is the reference's. -/
theorem noise_eq (m : (ℓ : Loc nD τ sig) → Buf (Elt Ideal) ℓ) (c : Dev nD) :
    noise (drawn m c (Proc.devRef .tc main_v7)) = (val_main_v195 (F := Ideal) : FVec Ideal S1x4x2x96 .f32) := by
  rw [uniform]
  rfl

end

section
variable (m : (ℓ : Loc nD τ sig) → Buf (Elt Ideal) ℓ) (c : Dev nD)

/-- Drawing the numbers changes no argument. -/
theorem arg0 : drawn m c (Proc.devRef .tc main_arg0) = m (c, Proc.devRef .tc main_arg0) := by
  simp only [drawn, hostOps0, hostOps0_1]
  after_results_simp

theorem arg1 : drawn m c (Proc.devRef .tc main_arg1) = m (c, Proc.devRef .tc main_arg1) := by
  simp only [drawn, hostOps0, hostOps0_1]
  after_results_simp

theorem arg2 : drawn m c (Proc.devRef .tc main_arg2) = m (c, Proc.devRef .tc main_arg2) := by
  simp only [drawn, hostOps0, hostOps0_1]
  after_results_simp

theorem arg3 : drawn m c (Proc.devRef .tc main_arg3) = m (c, Proc.devRef .tc main_arg3) := by
  simp only [drawn, hostOps0, hostOps0_1]
  after_results_simp

theorem arg4 : drawn m c (Proc.devRef .tc main_arg4) = m (c, Proc.devRef .tc main_arg4) := by
  simp only [drawn, hostOps0, hostOps0_1]
  after_results_simp

theorem arg5 : drawn m c (Proc.devRef .tc main_arg5) = m (c, Proc.devRef .tc main_arg5) := by
  simp only [drawn, hostOps0, hostOps0_1]
  after_results_simp

theorem arg6 : drawn m c (Proc.devRef .tc main_arg6) = m (c, Proc.devRef .tc main_arg6) := by
  simp only [drawn, hostOps0, hostOps0_1]
  after_results_simp

theorem arg7 : drawn m c (Proc.devRef .tc main_arg7) = m (c, Proc.devRef .tc main_arg7) := by
  simp only [drawn, hostOps0, hostOps0_1]
  after_results_simp

theorem arg8 : drawn m c (Proc.devRef .tc main_arg8) = m (c, Proc.devRef .tc main_arg8) := by
  simp only [drawn, hostOps0, hostOps0_1]
  after_results_simp

end

end Cert.KernelIdeal.Noise
-- ==== Proof.KernelIdeal.Found.lean ====
module

public import proofs.«01_k».proof.Proof.KernelIdeal.Noise
public import proofs.«01_k».proof.Proof.KernelIdeal.Run
public import proofs.«01_k».proof.Proof.Image

@[expose] public section

set_option maxRecDepth 16384

/-! # The blocks the body reads, at an index

Each is the whole of an operand, padded with zeros by the host. -/

noncomputable section

namespace Cert.KernelIdeal.Found

open Cert.KernelIdeal Cert.KernelIdeal.Gen Cert.Image
open Idealize.ShloMosaic Idealize.ShloMosaic.TcCoe Idealize.ShloMosaic.StableHlo Idealize.SL.Sem

/-- The padded image, read as a function of natural numbers; likewise the other operands below. -/
theorem image_at (x : FVec Ideal S1x224x224x96 .f32) (h : Fin 232) (w : Fin 226) (k : Fin 128) :
    Entry.image x (ix3 h w k) = image x h w k := by
  pointwise [Entry.z]
  rw [int_zero]
  rfl

theorem mask_at (x : FVec Ideal S1x224x224x1 .f32) (h : Fin 232) (w : Fin 224) :
    Entry.mask x (ix2 h w) = mask x h w := by
  pointwise [Entry.z]
  rw [int_zero]
  unfold mask
  by_cases q : 4 ≤ h.val ∧ h.val - 4 < 224
  · rw [dif_pos q, dif_pos ⟨q, w.isLt⟩]
  · rw [dif_neg q, dif_neg (fun e => q e.1)]

theorem table_at (x : FVec Ideal S1x4x2x96 .f32) (n : Fin 8) (k : Fin 128) : Entry.table x (ix2 n k) = table x n k := by
  pointwise [Entry.z]
  rw [int_zero]
  unfold table
  by_cases q : k.val < 96
  · rw [dif_pos q, dif_pos ⟨n.isLt, q⟩]
  · rw [dif_neg q, dif_neg (fun e => q e.2)]

theorem weights_at (x : FVec Ideal S3x3x96x96 .f32) (a b : Fin 3) (w k : Fin 128) :
    Entry.weights x (ix4 a b w k) = weights x a b w k := by
  pointwise [Entry.z]
  rw [int_zero]
  unfold weights
  by_cases q : w.val < 96 ∧ k.val < 96
  · rw [dif_pos q, dif_pos ⟨⟨a.isLt, b.isLt⟩, q⟩]
  · rw [dif_neg q, dif_neg (fun e => q e.2)]

theorem mix_at (x : FVec Ideal S1x1x384x96 .f32) (w : Fin 512) (k : Fin 128) : Entry.mix x (ix2 w k) = mix x w k := by
  pointwise [Entry.z]
  rw [int_zero]
  rfl

theorem bias_at (x : FVec Ideal S96 .f32) (k : Fin 128) : Entry.bias x (ix2 0 k) = bias x k := by
  pointwise [Entry.z]
  rw [int_zero]
  rfl

variable (m : (ℓ : Loc nD τ sig) → Buf (Elt Ideal) ℓ) (c : Dev nD)

/-- A buffer the pipeline finds, from what the host computed after drawing. -/
theorem of_later {α : Type} (f : Valuation τ sig (Elt Ideal) → α) {a : α} (h : f (after Entry.later (Entry.drawn m c)) = a) :
    f (V0 m c) = a := by
  rw [Entry.V0_eq, h]

/-- Every grid point reads the whole of each operand: its block index is zero. -/
theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![0, 0, 0, 0] := (by decide +kernel : ∀ t : Fin grid0.N, _)
theorem idx8 : ∀ t : Fin cfg0.N, win0_8.index t = ![0, 0, 0, 0] := (by decide +kernel : ∀ t : Fin grid0.N, _)
theorem idx9 : ∀ t : Fin cfg0.N, win0_9.index t = ![0, 0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

/-- What each operand of the launch holds when the pipeline starts. -/
theorem held0 : V m c main_v20 = (Entry.image (m (c, Proc.devRef .tc main_arg0)) : FVec Ideal S232x226x128 .bf16) :=
  of_later m c (· (Proc.devRef .tc main_v20)) ((Entry.v20 _).trans (congrArg Entry.image (Noise.arg0 m c)))

theorem held1 : V m c main_v22 = (Entry.mask (m (c, Proc.devRef .tc main_arg1)) : FVec Ideal S232x224 .f32) :=
  of_later m c (· (Proc.devRef .tc main_v22)) ((Entry.v22 _).trans (congrArg Entry.mask (Noise.arg1 m c)))

theorem held2 : V m c main_v13 = (Entry.table (m (c, Proc.devRef .tc main_arg2)) : FVec Ideal S8x128 .f32) :=
  of_later m c (· (Proc.devRef .tc main_v13)) ((Entry.v13 _).trans (congrArg Entry.table (Noise.arg2 m c)))

theorem held6 : V m c main_v24 = (truncf .bf16 (Entry.weights (m (c, Proc.devRef .tc main_arg3))) bitsLt_bf16_f32 : FVec Ideal S3x3x128x128 .bf16) :=
  of_later m c (· (Proc.devRef .tc main_v24)) ((Entry.v24 _).trans (congrArg (fun x => (truncf .bf16 (Entry.weights x) bitsLt_bf16_f32 : FVec Ideal S3x3x128x128 .bf16)) (Noise.arg3 m c)))

theorem held7 : V m c main_v25 = (Entry.weights (m (c, Proc.devRef .tc main_arg4)) : FVec Ideal S3x3x128x128 .f32) :=
  of_later m c (· (Proc.devRef .tc main_v25)) ((Entry.v25 _).trans (congrArg Entry.weights (Noise.arg4 m c)))

theorem held8 : V m c main_v26 = (Entry.weights (m (c, Proc.devRef .tc main_arg5)) : FVec Ideal S3x3x128x128 .f32) :=
  of_later m c (· (Proc.devRef .tc main_v26)) ((Entry.v26 _).trans (congrArg Entry.weights (Noise.arg5 m c)))

theorem held9 : V m c main_v27 = (Entry.weights (m (c, Proc.devRef .tc main_arg6)) : FVec Ideal S3x3x128x128 .f32) :=
  of_later m c (· (Proc.devRef .tc main_v27)) ((Entry.v27 _).trans (congrArg Entry.weights (Noise.arg6 m c)))

theorem held10 : V m c main_v31 = (Entry.mix (m (c, Proc.devRef .tc main_arg7)) : FVec Ideal S512x128 .bf16) :=
  of_later m c (· (Proc.devRef .tc main_v31)) ((Entry.v31 _).trans (congrArg Entry.mix (Noise.arg7 m c)))

theorem held11 : V m c main_v33 = (Entry.bias (m (c, Proc.devRef .tc main_arg8)) : FVec Ideal S1x128 .f32) :=
  of_later m c (· (Proc.devRef .tc main_v33)) ((Entry.v33 _).trans (congrArg Entry.bias (Noise.arg8 m c)))

/-- The noise, as the reference draws it. -/
abbrev drawnNoise : FVec Ideal S1x4x2x96 .f32 := Cert.ReferenceIdeal.Read.val_main_v195 (F := Ideal)

theorem held3 : V m c main_v15 = (Entry.table drawnNoise : FVec Ideal S8x128 .f32) :=
  of_later m c (· (Proc.devRef .tc main_v15)) ((Entry.v15 _).trans (congrArg Entry.table (Noise.noise_eq m c)))

theorem held4 : V m c main_v16
    = (transpose S128x8 [1, 0] (Entry.table (m (c, Proc.devRef .tc main_arg2))) transposes_S8x128_S128x8_1_0 : FVec Ideal S128x8 .f32) :=
  of_later m c (· (Proc.devRef .tc main_v16)) ((Entry.v16 _).trans (congrArg
    (fun x => (transpose S128x8 [1, 0] (Entry.table x) transposes_S8x128_S128x8_1_0 : FVec Ideal S128x8 .f32)) (Noise.arg2 m c)))

theorem held5 : V m c main_v17
    = (transpose S128x8 [1, 0] (Entry.table drawnNoise) transposes_S8x128_S128x8_1_0 : FVec Ideal S128x8 .f32) :=
  of_later m c (· (Proc.devRef .tc main_v17)) ((Entry.v17 _).trans (congrArg
    (fun x => (transpose S128x8 [1, 0] (Entry.table x) transposes_S8x128_S128x8_1_0 : FVec Ideal S128x8 .f32)) (Noise.noise_eq m c)))

variable (t : Fin cfg0.N)

/-- The block of each operand at every grid point, at an index. -/
theorem blk0 (h : Fin 232) (w : Fin 226) (k : Fin 128) : (iblk m c 0 t : FVec Ideal S232x226x128 .bf16) (ix3 h w k) = image (m (c, Proc.devRef .tc main_arg0)) h w k := by
  have e : (iblk m c 0 t : FVec Ideal S232x226x128 .bf16) (ix3 h w k) = (V m c main_v20 : FVec Ideal S232x226x128 .bf16) (ix3 h w k) := by
    blk_ext [iblk, idx0 t]
  rw [e, held0, ← image_at]

theorem blk1 (h : Fin 232) (w : Fin 224) : (iblk m c 1 t : FVec Ideal S232x224 .f32) (ix2 h w) = mask (m (c, Proc.devRef .tc main_arg1)) h w := by
  have e : (iblk m c 1 t : FVec Ideal S232x224 .f32) (ix2 h w) = (V m c main_v22 : FVec Ideal S232x224 .f32) (ix2 h w) := by
    blk_ext [iblk, idx1 t]
  rw [e, held1, ← mask_at]

theorem blk2 (n : Fin 8) (k : Fin 128) : (iblk m c 2 t : FVec Ideal S8x128 .f32) (ix2 n k) = table (m (c, Proc.devRef .tc main_arg2)) n k := by
  have e : (iblk m c 2 t : FVec Ideal S8x128 .f32) (ix2 n k) = (V m c main_v13 : FVec Ideal S8x128 .f32) (ix2 n k) := by
    blk_ext [iblk, idx2 t]
  rw [e, held2, ← table_at]

theorem blk3 (n : Fin 8) (k : Fin 128) : (iblk m c 3 t : FVec Ideal S8x128 .f32) (ix2 n k) = table drawnNoise n k := by
  have e : (iblk m c 3 t : FVec Ideal S8x128 .f32) (ix2 n k) = (V m c main_v15 : FVec Ideal S8x128 .f32) (ix2 n k) := by
    blk_ext [iblk, idx3 t]
  rw [e, held3, ← table_at]

theorem blk4 (n : Fin 8) (k : Fin 128) : (iblk m c 4 t : FVec Ideal S128x8 .f32) (ix2 k n) = table (m (c, Proc.devRef .tc main_arg2)) n k := by
  have e : (iblk m c 4 t : FVec Ideal S128x8 .f32) (ix2 k n) = (V m c main_v16 : FVec Ideal S128x8 .f32) (ix2 k n) := by
    blk_ext [iblk, idx4 t]
  rw [e, held4, ← table_at]
  pointwise []

theorem blk5 (n : Fin 8) (k : Fin 128) : (iblk m c 5 t : FVec Ideal S128x8 .f32) (ix2 k n) = table drawnNoise n k := by
  have e : (iblk m c 5 t : FVec Ideal S128x8 .f32) (ix2 k n) = (V m c main_v17 : FVec Ideal S128x8 .f32) (ix2 k n) := by
    blk_ext [iblk, idx5 t]
  rw [e, held5, ← table_at]
  pointwise []

theorem blk6 (a b : Fin 3) (w k : Fin 128) : (iblk m c 6 t : FVec Ideal S3x3x128x128 .bf16) (ix4 a b w k) = weights (m (c, Proc.devRef .tc main_arg3)) a b w k := by
  have e : (iblk m c 6 t : FVec Ideal S3x3x128x128 .bf16) (ix4 a b w k) = (V m c main_v24 : FVec Ideal S3x3x128x128 .bf16) (ix4 a b w k) := by
    blk_ext [iblk, idx6 t]
  rw [e, held6, ← weights_at]
  rfl

theorem blk7 (a b : Fin 3) (w k : Fin 128) : (iblk m c 7 t : FVec Ideal S3x3x128x128 .f32) (ix4 a b w k) = weights (m (c, Proc.devRef .tc main_arg4)) a b w k := by
  have e : (iblk m c 7 t : FVec Ideal S3x3x128x128 .f32) (ix4 a b w k) = (V m c main_v25 : FVec Ideal S3x3x128x128 .f32) (ix4 a b w k) := by
    blk_ext [iblk, idx7 t]
  rw [e, held7, ← weights_at]

theorem blk8 (a b : Fin 3) (w k : Fin 128) : (iblk m c 8 t : FVec Ideal S3x3x128x128 .f32) (ix4 a b w k) = weights (m (c, Proc.devRef .tc main_arg5)) a b w k := by
  have e : (iblk m c 8 t : FVec Ideal S3x3x128x128 .f32) (ix4 a b w k) = (V m c main_v26 : FVec Ideal S3x3x128x128 .f32) (ix4 a b w k) := by
    blk_ext [iblk, idx8 t]
  rw [e, held8, ← weights_at]

theorem blk9 (a b : Fin 3) (w k : Fin 128) : (iblk m c 9 t : FVec Ideal S3x3x128x128 .f32) (ix4 a b w k) = weights (m (c, Proc.devRef .tc main_arg6)) a b w k := by
  have e : (iblk m c 9 t : FVec Ideal S3x3x128x128 .f32) (ix4 a b w k) = (V m c main_v27 : FVec Ideal S3x3x128x128 .f32) (ix4 a b w k) := by
    blk_ext [iblk, idx9 t]
  rw [e, held9, ← weights_at]

theorem blk10 (w : Fin 512) (k : Fin 128) : (iblk m c 10 t : FVec Ideal S512x128 .bf16) (ix2 w k) = mix (m (c, Proc.devRef .tc main_arg7)) w k := by
  have e : (iblk m c 10 t : FVec Ideal S512x128 .bf16) (ix2 w k) = (V m c main_v31 : FVec Ideal S512x128 .bf16) (ix2 w k) := by
    blk_ext [iblk, idx10 t]
  rw [e, held10, ← mix_at]

theorem blk11 (k : Fin 128) : (iblk m c 11 t : FVec Ideal S1x128 .f32) (ix2 0 k) = bias (m (c, Proc.devRef .tc main_arg8)) k := by
  have e : (iblk m c 11 t : FVec Ideal S1x128 .f32) (ix2 0 k) = (V m c main_v33 : FVec Ideal S1x128 .f32) (ix2 0 k) := by
    blk_ext [iblk, idx11 t]
  rw [e, held11, ← bias_at]

end Cert.KernelIdeal.Found
-- ==== Proof.ReferenceIdeal.Noise.lean ====
module

public import proofs.«01_k».proof.Proof.ReferenceIdeal.Masks

@[expose] public section

set_option maxRecDepth 16384

/-! # The noise is a real number

Whatever the random word, the uniform number made of it lies strictly between zero and one, so both logarithms are real. -/

noncomputable section

namespace Cert.ReferenceIdeal.Noise

open Cert.ReferenceIdeal Cert.ReferenceIdeal.Gen Cert.ReferenceIdeal.Read
open Cert.KernelIdeal.Masks (dense sparse)
open Idealize.ShloMosaic Idealize.ShloMosaic.TcCoe Idealize.SL.Sem

/-- A word shifted right by nine bits, with the bits of one put in, is a positive float: its sign bit is clear. -/
theorem sign_bit (v : BitVec 32) : (v >>> 9 ||| 1065353216#32).extractLsb' 31 1 = 0#1 := by
  ext i hi
  obtain rfl : i = 0 := by omega
  simp

/-- Its exponent is that of one. -/
theorem exponent (v : BitVec 32) : (v >>> 9 ||| 1065353216#32).extractLsb' 23 8 = 127#8 := by
  ext i hi
  have h : v.getLsbD (9 + (23 + i)) = false := BitVec.getLsbD_of_ge _ _ (by omega)
  simp only [BitVec.getElem_extractLsb', BitVec.getLsbD_or, BitVec.getLsbD_ushiftRight, h, Bool.false_or]
  exact (by decide +kernel : ∀ i (h : i < 8), (1065353216#32).getLsbD (23 + i) = (127#8)[i]) i hi

/-- A word with the exponent of one is a number from one up to two. -/
theorem unit_range (v : BitVec 32) :
    ∃ q : ℝ, Ideal.ofBits FTy.f32 (v >>> 9 ||| 1065353216#32) = ((1 + q : ℝ) : EReal) ∧ 0 ≤ q ∧ q < 1 := by
  have hlt := ((v >>> 9 ||| 1065353216#32).extractLsb' 0 23).isLt
  refine ⟨(((v >>> 9 ||| 1065353216#32).extractLsb' 0 23).toNat : ℝ) / 2 ^ 23, ?_, by positivity, ?_⟩
  · unfold Ideal.ofBits Ideal.ieee
    simp only [sign_bit, exponent, show (8 + 23 : ℕ) = 31 from rfl]
    generalize ((v >>> 9 ||| 1065353216#32).extractLsb' 0 23).toNat = n
    norm_num [-EReal.coe_mul]
    refine congrArg _ ?_
    ring
  · rw [div_lt_one (by positivity)]
    exact_mod_cast hlt

theorem least : Ideal.ofBits FTy.f32 0x322BCC77#32 = ((11258999 * (2 : ℝ) ^ (-50 : ℤ) : ℝ) : EReal) := by
  simp [Ideal.ofBits, Ideal.ieee, -EReal.coe_mul]

/-- The uniform number made of a random word. -/
def uni (v : BitVec 32) : EReal :=
  max (Ideal.ofBits FTy.f32 0x322BCC77#32) ((Ideal.ofBits FTy.f32 (v >>> 9 ||| 1065353216#32) - Ideal.ofBits FTy.f32 0x3F800000#32)
    * (Ideal.ofBits FTy.f32 0x3F800000#32 - Ideal.ofBits FTy.f32 0x322BCC77#32) + Ideal.ofBits FTy.f32 0x322BCC77#32)

theorem nine (v : BitVec 32) : IntOp.shrui ArithUnit.host v 9#32 = v >>> 9 := by
  unfold IntOp.shrui
  rw [if_pos (by decide)]
  rfl

/-- The uniform number at an entry. -/
theorem at_index (i : S1x4x2x96.Idx) : val_main_v191 (F := Ideal) i = uni (val_main_v177 (F := Ideal) i) := by
  rw [val_main_v191_apply, val_main_v190_apply, val_main_v189_apply, val_main_v188_apply, val_main_v187_apply, val_main_v186_apply, val_main_v185_apply,
    val_main_v184_apply, val_main_v183_apply, val_main_v182_apply, val_main_v181_apply, val_main_v180_apply, val_main_v179_apply, val_main_v178_apply]
  generalize val_main_v177 (F := Ideal) i = v
  unfold val_main_cst val_main_cst_59 val_main_cst_60 val_main_cst_61 val_main_cst_62 val_main_c_57 val_main_c_58 uni
  rw [← nine]
  rfl

/-- The noise at an entry, from its uniform number. -/
theorem outer (i : S1x4x2x96.Idx) : val_main_v195 (F := Ideal) i = -Ideal.log (-Ideal.log (val_main_v191 (F := Ideal) i)) := by
  rw [val_main_v195_apply, val_main_v194_apply, val_main_v193_apply, val_main_v192_apply]
  generalize val_main_v191 (F := Ideal) i = v
  rfl

/-- A uniform number is real and lies strictly between zero and one. -/
theorem uni_range (v : BitVec 32) : ∃ u : ℝ, uni v = (u : EReal) ∧ 0 < u ∧ u < 1 := by
  obtain ⟨q, hq, h0, h1⟩ := unit_range v
  have hl : (0 : ℝ) < 11258999 * (2 : ℝ) ^ (-50 : ℤ) := by positivity
  have hl1 : 11258999 * (2 : ℝ) ^ (-50 : ℤ) < 1 := by norm_num
  have hu : uni v = max (((11258999 * (2 : ℝ) ^ (-50 : ℤ) : ℝ) : EReal))
      ((((1 + q : ℝ) : EReal) - ((1 : ℝ) : EReal)) * (((1 : ℝ) : EReal) - ((11258999 * (2 : ℝ) ^ (-50 : ℤ) : ℝ) : EReal))
        + ((11258999 * (2 : ℝ) ^ (-50 : ℤ) : ℝ) : EReal)) := by
    unfold uni
    rw [hq, least, Ideal.ofBits_one_f32, EReal.coe_one]
  generalize (11258999 * (2 : ℝ) ^ (-50 : ℤ) : ℝ) = l at hl hl1 hu
  rw [← EReal.coe_sub, ← EReal.coe_sub, ← EReal.coe_mul, ← EReal.coe_add, ← EReal.coe_strictMono.monotone.map_max] at hu
  refine ⟨_, hu, lt_max_of_lt_left hl, max_lt hl1 ?_⟩
  have := mul_pos (sub_pos.mpr h1) (sub_pos.mpr hl1)
  linarith

/-- The logarithm of a positive number. -/
theorem log_pos (r : ℝ) (h : 0 < r) : Ideal.log (r : EReal) = (Real.log r : EReal) := by
  show (if r ≤ 0 then ⊥ else (Real.log r : EReal)) = _
  rw [if_neg (not_le.mpr h)]

/-- The noise is a real number. -/
theorem noise_real (i : S1x4x2x96.Idx) : ∃ r : ℝ, val_main_v195 (F := Ideal) i = (r : EReal) := by
  obtain ⟨u, hu, h0, h1⟩ := uni_range (val_main_v177 (F := Ideal) i)
  have hn : 0 < -Real.log u := neg_pos.mpr (Real.log_neg h0 h1)
  refine ⟨-Real.log (-Real.log u), ?_⟩
  rw [outer, at_index, hu, log_pos u h0, ← EReal.coe_neg, log_pos _ hn, ← EReal.coe_neg]

open Cert.Image Cert.ReferenceIdeal.Masks

/-- The logits of a finite table, with the noise added, are finite. -/
theorem masks_of_finite (x2 : FVec Ideal S1x4x2x96 .f32) (hx : ∀ i, x2 i ≠ ⊤ ∧ x2 i ≠ ⊥) (i k : ℕ) (hi : i < 4) (hk : k < 96) (j : Fin 2) :
    logits x2 (val_main_v195 (F := Ideal)) (2 * i + j) k ≠ ⊤ ∧ logits x2 (val_main_v195 (F := Ideal)) (2 * i + j) k ≠ ⊥ := by
  have e (y : FVec Ideal S1x4x2x96 .f32) : table y (2 * i + j) k = y (ix4 0 ⟨i, hi⟩ j ⟨k, hk⟩) := table_apply y ⟨i, hi⟩ j ⟨k, hk⟩
  obtain ⟨r, hr⟩ := noise_real (ix4 0 ⟨i, hi⟩ j ⟨k, hk⟩)
  have hxi := hx (ix4 0 ⟨i, hi⟩ j ⟨k, hk⟩)
  unfold logits
  rw [e, e, hr]
  generalize x2 (ix4 0 ⟨i, hi⟩ j ⟨k, hk⟩) = y at hxi
  lift y to ℝ using hxi
  rw [← EReal.coe_add]
  exact ⟨EReal.coe_ne_top _, EReal.coe_ne_bot _⟩

end Cert.ReferenceIdeal.Noise
-- ==== Proof.Results.lean ====
module

public import proofs.«01_k».proof.Proof.Equal
public import proofs.«01_k».proof.Proof.KernelIdeal.Found
public import proofs.«01_k».proof.Proof.ReferenceIdeal.Noise
public import proofs.«01_k».proof.Proof.Gen.Pre_masks_sane
public import Idealize.ShloMosaic.Lib.Claim

@[expose] public section

set_option maxRecDepth 16384

/-! # The two results

The arrays that the kernel leaves, assembled from the blocks of its grid points, are the reference's results. -/

noncomputable section

namespace Cert.KernelIdeal.Results

open Cert.KernelIdeal Cert.KernelIdeal.Gen Cert.KernelIdeal.Run Cert.KernelIdeal.Found Cert.Equal
open Cert.KernelIdeal.Chain (D S)
open Cert.KernelIdeal.Masks (dense sparse cmBlock_apply)
open Cert.ReferenceIdeal.Read (val_main_v650 val_main_v209)
open Idealize.ShloMosaic Idealize.ShloMosaic.TcCoe Idealize.ShloMosaic.StableHlo Idealize.SL.Sem
open Idealize.ShloMosaic.Pipeline (Dat)

/-- What the precondition says: no spatial mask value is negative, and every channel logit is finite. -/
structure Sane (x1 : FVec Ideal S1x224x224x1 .f32) (x2 : FVec Ideal S1x4x2x96 .f32) : Prop where
  mask : ∀ i, (0 : EReal) ≤ x1 i
  logit : ∀ i, x2 i ≠ ⊤ ∧ x2 i ≠ ⊥

variable (m : (ℓ : Loc nD τ sig) → Buf (Elt Ideal) ℓ) (c : Dev nD)

/-- Argument arrays. -/
abbrev a0 : FVec Ideal S1x224x224x96 .f32 := m (c, Proc.devRef .tc main_arg0)
abbrev a1 : FVec Ideal S1x224x224x1 .f32 := m (c, Proc.devRef .tc main_arg1)
abbrev a2 : FVec Ideal S1x4x2x96 .f32 := m (c, Proc.devRef .tc main_arg2)
abbrev a3 : FVec Ideal S3x3x96x96 .f32 := m (c, Proc.devRef .tc main_arg3)
abbrev a4 : FVec Ideal S3x3x96x96 .f32 := m (c, Proc.devRef .tc main_arg4)
abbrev a5 : FVec Ideal S3x3x96x96 .f32 := m (c, Proc.devRef .tc main_arg5)
abbrev a6 : FVec Ideal S3x3x96x96 .f32 := m (c, Proc.devRef .tc main_arg6)
abbrev a7 : FVec Ideal S1x1x384x96 .f32 := m (c, Proc.devRef .tc main_arg7)
abbrev a8 : FVec Ideal S96 .f32 := m (c, Proc.devRef .tc main_arg8)

/-- The first result, as the reference computes it. -/
abbrev y : FVec Ideal S1x224x224x96 .f32 := val_main_v650 (F := Ideal) (a0 m c) (a1 m c) (a2 m c) (a3 m c) (a4 m c) (a5 m c) (a6 m c) (a7 m c) (a8 m c)

/-- The coordinate of grid point `t` is `t`. -/
theorem place : ∀ t : Fin cfg0.N, (grid0.coords t 0).val = t.val := (by decide +kernel : ∀ t : Fin grid0.N, _)

/-- There are seven grid points. -/
theorem lt_seven (t : Fin cfg0.N) : t.val < 7 := t.isLt

/-- The blocks that grid point `t` reads. -/
def w0 (t : Fin cfg0.N) : FVec Ideal S232x226x128 .bf16 := iblk m c 0 t
def w1 (t : Fin cfg0.N) : FVec Ideal S232x224 .f32 := iblk m c 1 t
def w2 (t : Fin cfg0.N) : FVec Ideal S8x128 .f32 := iblk m c 2 t
def w3 (t : Fin cfg0.N) : FVec Ideal S8x128 .f32 := iblk m c 3 t
def w4 (t : Fin cfg0.N) : FVec Ideal S128x8 .f32 := iblk m c 4 t
def w5 (t : Fin cfg0.N) : FVec Ideal S128x8 .f32 := iblk m c 5 t
def w6 (t : Fin cfg0.N) : FVec Ideal S3x3x128x128 .bf16 := iblk m c 6 t
def w7 (t : Fin cfg0.N) : FVec Ideal S3x3x128x128 .f32 := iblk m c 7 t
def w8 (t : Fin cfg0.N) : FVec Ideal S3x3x128x128 .f32 := iblk m c 8 t
def w9 (t : Fin cfg0.N) : FVec Ideal S3x3x128x128 .f32 := iblk m c 9 t
def w10 (t : Fin cfg0.N) : FVec Ideal S512x128 .bf16 := iblk m c 10 t
def w11 (t : Fin cfg0.N) : FVec Ideal S1x128 .f32 := iblk m c 11 t

/-- The logits as rows: the table with the noise added. -/
theorem rows_at (t : Fin cfg0.N) (n : Fin 8) (k : Fin 128) :
    (w2 m c t (ix2 n k) + w3 m c t (ix2 n k) : EReal) = lg (a2 m c) n k := by
  have e2 : w2 m c t (ix2 n k) = Cert.Image.table (a2 m c) n k := blk2 m c t n k
  have e3 : w3 m c t (ix2 n k) = Cert.Image.table drawnNoise n k := blk3 m c t n k
  rw [e2, e3]
  rfl

/-- The logits as columns: the same. -/
theorem columns_at (t : Fin cfg0.N) (n : Fin 8) (k : Fin 128) :
    (w4 m c t (ix2 k n) + w5 m c t (ix2 k n) : EReal) = lg (a2 m c) n k := by
  have e4 : w4 m c t (ix2 k n) = Cert.Image.table (a2 m c) n k := blk4 m c t n k
  have e5 : w5 m c t (ix2 k n) = Cert.Image.table drawnNoise n k := blk5 m c t n k
  rw [e4, e5]
  rfl

/-- The block of the image, from the blocks read. -/
theorem yAt_eq (t : Fin cfg0.N) : yAt m c t = Block.yBlock (F := Ideal) (grid0.coords t) (w0 m c t) (w1 m c t) (w2 m c t) (w3 m c t) (w4 m c t) (w5 m c t) (w6 m c t) (w7 m c t) (w8 m c t) (w9 m c t) (w10 m c t) (w11 m c t) := rfl

/-- The block of masks, from the blocks read. -/
theorem cmAt_eq (t : Fin cfg0.N) : cmAt m c t = Block.cmBlock (F := Ideal) (w2 m c t) (w3 m c t) := rfl

/-- The masks of every layer and channel are not negative and add up to one. -/
theorem layers_masks (h : Sane (a1 m c) (a2 m c)) (i k : ℕ) (hi : i < 4) (hk : k < 96) :
    0 ≤ D (lg (a2 m c)) i k ∧ 0 ≤ S (lg (a2 m c)) i k ∧ D (lg (a2 m c)) i k + S (lg (a2 m c)) i k = 1 := by
  have e0 := Cert.ReferenceIdeal.Noise.masks_of_finite (a2 m c) h.logit i k hi hk 0
  have e1 := Cert.ReferenceIdeal.Noise.masks_of_finite (a2 m c) h.logit i k hi hk 1
  exact Cert.ReferenceIdeal.Masks.masks _ _ e0.1 e0.2 e1.1 e1.2

/-- Grid point `t` computes rows `32 t` to `32 t + 31` of the reference's first result. -/
theorem yAt_apply (h : Sane (a1 m c) (a2 m c)) (t : Fin cfg0.N) (r : Fin 32) (x : Fin 224) (k : Fin 96) :
    (yAt m c t : FVec Ideal S32x224x96 .f32) (ix3 r x k) = y m c (ix4 0 (⟨32 * t.val + r.val, by have := lt_seven t; omega⟩ : Fin 224) x k) := by
  rw [yAt_eq]
  exact block_eq (a0 m c) (a1 m c) (a2 m c) (a3 m c) (a4 m c) (a5 m c) (a6 m c) (a7 m c) (a8 m c) h.mask (layers_masks m c h)
    (grid0.coords t) ⟨t.val, lt_seven t⟩ (place t) (w0 m c t) (w1 m c t) (w2 m c t) (w3 m c t) (w4 m c t) (w5 m c t) (w6 m c t) (w7 m c t) (w8 m c t) (w9 m c t) (w10 m c t) (w11 m c t)
    (blk0 m c t) (blk1 m c t) (rows_at m c t) (columns_at m c t) (blk6 m c t) (blk7 m c t) (blk8 m c t) (blk9 m c t) (blk10 m c t) (blk11 m c t) r x k

/-- The masks of all grid points, as the kernel stores them. -/
def cmAll : FVec Ideal S7x8x128 .f32 := fun i =>
  let L := lg (a2 m c)
  if (i 1).val % 2 = 0 then dense (L (i 1) (i 2)) (L ((i 1) + 1) (i 2)) else sparse (L ((i 1) - 1) (i 2)) (L (i 1) (i 2))

/-- Every grid point computes the same masks. -/
theorem cmAt_apply (t : Fin cfg0.N) (u : Fin 1) (n : Fin 8) (k : Fin 128) :
    (cmAt m c t : FVec Ideal S1x8x128 .f32) (ix3 u n k) = cmAll m c (ix3 (⟨t.val, lt_seven t⟩ : Fin 7) n k) :=
  by
  obtain rfl : u = 0 := Subsingleton.elim _ _
  rw [cmAt_eq]
  exact cmBlock_apply (w2 m c t) (w3 m c t) (lg (a2 m c)) (rows_at m c t) k n

/-- Grid point `t` writes block `t` of both results. -/
theorem idx12 : ∀ t : Fin cfg0.N, win0_12.index t = ![t.val, 0, 0] := (by decide +kernel : ∀ t : Fin grid0.N, _)
theorem idx13 : ∀ t : Fin cfg0.N, win0_13.index t = ![t.val, 0, 0] := (by decide +kernel : ∀ t : Fin grid0.N, _)

/-- After the launch the first array holds the reference's first result. -/
theorem y_array (h : Sane (a1 m c) (a2 m c)) :
    (dats m 0 c).arrAt 12 cfg0.N = (fun i => y m c (ix4 0 (i 0) (i 1) (i 2)) : FVec Ideal S224x224x96 .f32) := by
  refine (dats m 0 c).arrAt_eq_of_covers 12 _ (by decide +kernel) fun t hf j => ?_
  blk_simp
  rw [after0_12]
  have e := yAt_apply m c h t (j 0) (j 1) (j 2)
  rw [show (ix3 (j 0) (j 1) (j 2) : S32x224x96.Idx) = j from ix3_eta j] at e
  refine e.trans (congrArg (y m c) ?_)
  blk_ext [idx12 t]

/-- After the launch the second array holds the masks, once for each grid point. -/
theorem cm_array : (dats m 0 c).arrAt 13 cfg0.N = cmAll m c := by
  refine (dats m 0 c).arrAt_eq_of_covers 13 _ (by decide +kernel) fun t hf j => ?_
  blk_simp
  rw [after0_13]
  have e := cmAt_apply m c t (j 0) (j 1) (j 2)
  rw [show (ix3 (j 0) (j 1) (j 2) : S1x8x128.Idx) = j from ix3_eta j] at e
  refine e.trans (congrArg (cmAll m c) ?_)
  blk_ext [idx13 t]

end Cert.KernelIdeal.Results
-- ==== Proof.Tail.lean ====
module

public import proofs.«01_k».proof.Proof.Results

@[expose] public section

set_option maxRecDepth 16384

/-! # After the launch

The host lines that follow the launch drop the padding of the masks and give both results their final shapes. -/

noncomputable section

namespace Cert.KernelIdeal.Tail

open Cert.KernelIdeal Cert.KernelIdeal.Gen Cert.KernelIdeal.Run Cert.KernelIdeal.Results Cert.Equal
open Cert.KernelIdeal.Masks (dense sparse)
open Cert.ReferenceIdeal.Read (val_main_v650 val_main_v209)
open Idealize.ShloMosaic Idealize.ShloMosaic.TcCoe Idealize.ShloMosaic.StableHlo Idealize.SL.Sem

section Host

variable (U : Valuation τ sig (Elt Ideal))

/-- The host gives the first array its final shape. -/
theorem first_host : after hostOps1 U (Proc.devRef .tc main_v35) =
    (shapeCast S1x224x224x96 (U (Proc.devRef .tc main_v34_0) : FVec Ideal S224x224x96 .f32) (by decide) : FVec Ideal S1x224x224x96 .f32) := by
  unfold hostOps1
  after_results_simp
  rfl

/-- The host takes the first grid point's masks, drops their padding and gives them their final shape. -/
theorem second_host : after hostOps1 U (Proc.devRef .tc main_v38) =
    (shapeCast S1x4x2x96 (shapeCast S8x96 (extractStridedSlice S1x8x96 ![0, 0, 0] (U (Proc.devRef .tc main_v34_1) : FVec Ideal S7x8x128 .f32) (by decide) : FVec Ideal S1x8x96 .f32) (by decide) : FVec Ideal S8x96 .f32) (by decide) : FVec Ideal S1x4x2x96 .f32) := by
  unfold hostOps1
  after_results_simp
  rfl

end Host

/-- A leading axis of extent one added to an array that was read with that axis at zero gives the array back. -/
theorem first_shape (Y : FVec Ideal S1x224x224x96 .f32) (h : S224x224x96.ShapeCasts S1x224x224x96) :
    shapeCast S1x224x224x96 (fun i => Y (ix4 0 (i 0) (i 1) (i 2)) : FVec Ideal S224x224x96 .f32) h = Y := by
  funext i
  obtain ⟨u, a, b, k, rfl⟩ : ∃ (u : Fin 1) (a b : Fin 224) (k : Fin 96), i = ix4 u a b k := ⟨i 0, i 1, i 2, i 3, (ix4_eta i).symm⟩
  obtain rfl : u = 0 := Subsingleton.elim _ _
  pointwise []

/-- Layer `i`'s masks are the rows `2 i` and `2 i + 1` of the stored table. -/
theorem second_shape (X : FVec Ideal S7x8x128 .f32) (h1 h2 h3) (i : Fin 4) (j : Fin 2) (k : Fin 96) :
    (shapeCast S1x4x2x96 (shapeCast S8x96 (extractStridedSlice S1x8x96 ![0, 0, 0] X h1 : FVec Ideal S1x8x96 .f32) h2 : FVec Ideal S8x96 .f32) h3 : FVec Ideal S1x4x2x96 .f32) (ix4 0 i j k)
      = X (ix3 (0 : Fin 7) (⟨2 * i.val + j.val, by omega⟩ : Fin 8) (⟨k.val, by omega⟩ : Fin 128)) := by
  rw [show (⟨2 * i.val + j.val, by omega⟩ : Fin 8) = ⟨i.val * 2 + j.val, by omega⟩ from Fin.ext (by simp only; omega)]
  pointwise []

variable (m : (ℓ : Loc nD τ sig) → Buf (Elt Ideal) ℓ) (c : Dev nD)

/-- The masks so taken are the reference's. -/
theorem second (i : Fin 4) (j : Fin 2) (k : Fin 96) :
    cmAll m c (ix3 (0 : Fin 7) (⟨2 * i.val + j.val, by omega⟩ : Fin 8) (⟨k.val, by omega⟩ : Fin 128)) = val_main_v209 (F := Ideal) (a2 m c) (ix4 0 i j k) := by
  rw [Cert.ReferenceIdeal.Masks.masks_apply]
  match j with
  | 0 =>
    have e : (2 * i.val + 0) % 2 = 0 := by omega
    exact if_pos e
  | 1 =>
    have e : ¬ (2 * i.val + 1) % 2 = 0 := by omega
    exact if_neg e

/-- The first result of the kernel is the reference's. -/
theorem first_result (h : Sane (a1 m c) (a2 m c)) : Pipeline.afterTail₀ cfgs (dats m) 0 (V0 m) [hostOps1] c main_v35 = y m c := by
  unfold Pipeline.afterTail₀
  rw [List.flatten_cons, List.flatten_nil, List.append_nil, first_host]
  have e := Pipeline.withArrays_arr spec0 launch0.win.arr_inj c (V0 m c) (fun w => (dats m 0 c).arrAt w cfg0.N) 12
  refine Eq.trans ?_ (first_shape (y m c) (by decide))
  exact congrArg (fun X : FVec Ideal S224x224x96 .f32 => shapeCast S1x224x224x96 X (by decide)) (e.trans (y_array m c h))

/-- The second result of the kernel is the reference's. -/
theorem second_result : Pipeline.afterTail₀ cfgs (dats m) 0 (V0 m) [hostOps1] c main_v38 = val_main_v209 (F := Ideal) (a2 m c) := by
  unfold Pipeline.afterTail₀
  rw [List.flatten_cons, List.flatten_nil, List.append_nil, second_host]
  have e := (Pipeline.withArrays_arr spec0 launch0.win.arr_inj c (V0 m c) (fun w => (dats m 0 c).arrAt w cfg0.N) 13).trans (cm_array m c)
  funext q
  obtain ⟨u, i, j, k, rfl⟩ : ∃ (u : Fin 1) (i : Fin 4) (j : Fin 2) (k : Fin 96), q = ix4 u i j k := ⟨q 0, q 1, q 2, q 3, (ix4_eta q).symm⟩
  obtain rfl : u = 0 := Subsingleton.elim _ _
  refine (second_shape _ _ _ _ i j k).trans ?_
  exact (congrFun e _).trans (second m c i j k)

/-! ## The precondition -/

/-- A test whose bit is one holds. -/
theorem true_of_bit (b : Bool) (h : BitVec.ofBool b = 1#1) : b = true := by
  revert h
  cases b <;> decide

/-- Two tests whose conjunction's bit is one both hold. -/
theorem bits_of_and (a b : Bool) (h : IntOp.andi (BitVec.ofBool a) (BitVec.ofBool b) = 1#1) : a = true ∧ b = true := by
  revert h
  cases a <;> cases b <;> decide

/-- The word of plus infinity. -/
theorem plus_infinity : Ideal.ofBits .f32 0x7F800000#32 = ⊤ := by simp [Ideal.ofBits, Ideal.ieee]

/-- The word of minus infinity. -/
theorem minus_infinity : Ideal.ofBits .f32 0xFF800000#32 = ⊥ := by simp [Ideal.ofBits, Ideal.ieee]

section Precondition

variable (x0 : FVec Ideal S1x224x224x96 .f32) (x1 : FVec Ideal S1x224x224x1 .f32) (x2 : FVec Ideal S1x4x2x96 .f32)
  (x3 x4 x5 x6 : FVec Ideal S3x3x96x96 .f32) (x7 : FVec Ideal S1x1x384x96 .f32) (x8 : FVec Ideal S96 .f32)

/-- The entries of the precondition: the spatial mask's come first, then the channel logits'. -/
theorem entry (n : Fin 50944) :
    Cert.Pre_masks_sane.fn (F := Ideal) x0 x1 x2 x3 x4 x5 x6 x7 x8 (ix1 n)
      = if h : n.val < 50176 then BitVec.ofBool (decide ((0 : EReal) ≤ x1 (ix4 0 (⟨n.val / 224, by omega⟩ : Fin 224) (⟨n.val % 224, by omega⟩ : Fin 224) 0)))
        else IntOp.andi
          (BitVec.ofBool (decide (x2 (ix4 0 (⟨(n.val - 50176) / 192, by omega⟩ : Fin 4) (⟨(n.val - 50176) / 96 % 2, by omega⟩ : Fin 2) (⟨(n.val - 50176) % 96, by omega⟩ : Fin 96)) < Ideal.ofBits .f32 0x7F800000#32)))
          (BitVec.ofBool (decide (Ideal.ofBits .f32 0xFF800000#32 < x2 (ix4 0 (⟨(n.val - 50176) / 192, by omega⟩ : Fin 4) (⟨(n.val - 50176) / 96 % 2, by omega⟩ : Fin 2) (⟨(n.val - 50176) % 96, by omega⟩ : Fin 96))))) := by
  pointwise [Cert.Pre_masks_sane.fn]

/-- The precondition makes every spatial mask value at least zero. -/
theorem mask_bit (a b : Fin 224) (h : Cert.Pre_masks_sane.fn (F := Ideal) x0 x1 x2 x3 x4 x5 x6 x7 x8 = fun _ => 1#1) :
    (0 : EReal) ≤ x1 (ix4 0 a b 0) := by
  have e := (entry x0 x1 x2 x3 x4 x5 x6 x7 x8 ⟨224 * a.val + b.val, by omega⟩).symm.trans (congrFun h _)
  rw [dif_pos (by simp only; omega)] at e
  have p := of_decide_eq_true (true_of_bit _ e)
  rwa [show (⟨(224 * a.val + b.val) / 224, by omega⟩ : Fin 224) = a from Fin.ext (by simp only; omega),
    show (⟨(224 * a.val + b.val) % 224, by omega⟩ : Fin 224) = b from Fin.ext (by simp only; omega)] at p

/-- The precondition makes every logit finite. -/
theorem logit_bit (a : Fin 4) (b : Fin 2) (k : Fin 96) (h : Cert.Pre_masks_sane.fn (F := Ideal) x0 x1 x2 x3 x4 x5 x6 x7 x8 = fun _ => 1#1) :
    x2 (ix4 0 a b k) ≠ ⊤ ∧ x2 (ix4 0 a b k) ≠ ⊥ := by
  have e := (entry x0 x1 x2 x3 x4 x5 x6 x7 x8 ⟨50176 + (192 * a.val + 96 * b.val + k.val), by omega⟩).symm.trans (congrFun h _)
  rw [dif_neg (by simp only; omega)] at e
  have p := bits_of_and _ _ e
  have ea : ∀ w, (⟨(50176 + (192 * a.val + 96 * b.val + k.val) - 50176) / 192, w⟩ : Fin 4) = a := fun _ => Fin.ext (by simp only; omega)
  have eb : ∀ w, (⟨(50176 + (192 * a.val + 96 * b.val + k.val) - 50176) / 96 % 2, w⟩ : Fin 2) = b := fun _ => Fin.ext (by simp only; omega)
  have ek : ∀ w, (⟨(50176 + (192 * a.val + 96 * b.val + k.val) - 50176) % 96, w⟩ : Fin 96) = k := fun _ => Fin.ext (by simp only; omega)
  rw [plus_infinity, minus_infinity, ea, eb, ek] at p
  exact ⟨(of_decide_eq_true p.1).ne, (of_decide_eq_true p.2).ne'⟩

/-- What the precondition says, as a statement about the arguments. -/
theorem sane_of_ones (h : Cert.Pre_masks_sane.fn (F := Ideal) x0 x1 x2 x3 x4 x5 x6 x7 x8 = fun _ => 1#1) : Sane x1 x2 where
  mask i := by
    obtain ⟨u, a, b, v, rfl⟩ : ∃ (u : Fin 1) (a b : Fin 224) (v : Fin 1), i = ix4 u a b v := ⟨i 0, i 1, i 2, i 3, (ix4_eta i).symm⟩
    obtain rfl : u = 0 := Subsingleton.elim _ _
    obtain rfl : v = 0 := Subsingleton.elim _ _
    exact mask_bit x0 x1 x2 x3 x4 x5 x6 x7 x8 a b h
  logit i := by
    obtain ⟨u, a, b, k, rfl⟩ : ∃ (u : Fin 1) (a : Fin 4) (b : Fin 2) (k : Fin 96), i = ix4 u a b k := ⟨i 0, i 1, i 2, i 3, (ix4_eta i).symm⟩
    obtain rfl : u = 0 := Subsingleton.elim _ _
    exact logit_bit x0 x1 x2 x3 x4 x5 x6 x7 x8 a b k h

end Precondition

end Cert.KernelIdeal.Tail
-- ==== Proof.Claims.lean ====
module

public import proofs.«01_k».proof.Defs
public import proofs.«01_k».proof.Proof.Tail

@[expose] public section

set_option maxRecDepth 16384

/-! # The claims about the reference and about the pair -/

noncomputable section

namespace Cert.Claims

open Idealize.ShloMosaic Idealize.ShloMosaic.TcCoe Idealize.ShloMosaic.StableHlo Idealize.SL.Sem
open Cert.KernelIdeal.Results (y a2)
open Cert.ReferenceIdeal.Read (val_main_v209 val_main_v650 val_main_v650_eq val_main_v209_eq)

/-- Every execution of the reference ends with the arguments unchanged and every counter at zero. -/
theorem reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's first result depends on its arguments alone. -/
theorem same_arguments {x0 z0 : FVec Ideal Cert.KernelIdeal.S1x224x224x96 .f32} {x1 z1 : FVec Ideal Cert.KernelIdeal.S1x224x224x1 .f32} {x2 z2 : FVec Ideal Cert.KernelIdeal.S1x4x2x96 .f32}
    {x3 z3 x4 z4 x5 z5 x6 z6 : FVec Ideal Cert.KernelIdeal.S3x3x96x96 .f32} {x7 z7 : FVec Ideal Cert.KernelIdeal.S1x1x384x96 .f32} {x8 z8 : FVec Ideal Cert.KernelIdeal.S96 .f32}
    (h0 : x0 = z0) (h1 : x1 = z1) (h2 : x2 = z2) (h3 : x3 = z3) (h4 : x4 = z4) (h5 : x5 = z5) (h6 : x6 = z6) (h7 : x7 = z7) (h8 : x8 = z8) :
    val_main_v650 (F := Ideal) x0 x1 x2 x3 x4 x5 x6 x7 x8 = val_main_v650 (F := Ideal) z0 z1 z2 z3 z4 z5 z6 z7 z8 := by
  rw [h0, h1, h2, h3, h4, h5, h6, h7, h8]

/-- From the same arguments, the spatial masks nonnegative and the channel logits finite, both programs end with the same results. -/
theorem pair : Cert.algebraic_KernelIdeal_ReferenceIdeal_pre_masks_sane := by
  intro m g m' g' hpre hagree
  refine ⟨fun c => y m c, fun c => val_main_v209 (F := Ideal) (a2 m c), ?_, ?_⟩
  · refine (θ_run _ _ _).mono ?_ (θ_run_and (Cert.KernelIdeal.Run.run_main m g) (Cert.KernelIdeal.Run.frame m g))
    rintro r ⟨h, f⟩ c
    exact ⟨((h c).2 Cert.KernelIdeal.main_v35 (by decide)).trans (Cert.KernelIdeal.Tail.first_result m c (Cert.KernelIdeal.Tail.sane_of_ones _ _ _ _ _ _ _ _ _ (hpre c))),
      ((h c).2 Cert.KernelIdeal.main_v38 (by decide)).trans (Cert.KernelIdeal.Tail.second_result m c), f.1 c⟩
  · refine (θ_run _ _ _).mono ?_ (Cert.ReferenceIdeal.Value.run (F := Ideal) m' g')
    intro r h c
    have a := hagree c
    clear hagree
    refine ⟨(h c).1.trans ((val_main_v650_eq _).trans ?_), (h c).2.1.trans ((val_main_v209_eq _).trans ?_), (h c).2.2⟩
    · exact same_arguments a.1 a.2.1 a.2.2.1 a.2.2.2.1 a.2.2.2.2.1 a.2.2.2.2.2.1 a.2.2.2.2.2.2.1 a.2.2.2.2.2.2.2.1 a.2.2.2.2.2.2.2.2
    · exact congrArg (val_main_v209 (F := Ideal)) a.2.2.1

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_masks_sane
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Claims
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- Everything that is claimed, together with the side conditions that the programs state. -/
theorem claim : Cert.Claim := ⟨Cert.Kernel.Gen.facts, Cert.KernelIdeal.Gen.facts, Cert.ReferenceIdeal.Gen.facts, Cert.Pre_masks_sane.Gen.facts,
  fun m ρ _ => Cert.Kernel.Run.frame m ρ, fun m ρ _ => Cert.KernelIdeal.Run.frame m ρ, fun m ρ _ => Cert.KernelIdeal.Run.frame m ρ,
  Cert.Claims.reference, fun m ρ _ => Cert.Claims.reference m ρ trivial, trivial, Cert.Claims.pair⟩

end Cert.Proof

end
